-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v55)) (v2 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_v56) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v370) = v0 c
          ∧ r.2.mem ((c.tc : Thread Cert.ReferenceIdeal.nD Cert.ReferenceIdeal.τ).loc Cert.ReferenceIdeal.main_v371) = v1 c
          ∧ r.2.mem ((c.tc : Thread Cert.ReferenceIdeal.nD Cert.ReferenceIdeal.τ).loc Cert.ReferenceIdeal.main_v372) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x128x256 : Shape := ⟨4, ![2, 128, 128, 256]⟩
abbrev S2x64x64x256 : Shape := ⟨4, ![2, 64, 64, 256]⟩
abbrev S2x32x32x256 : Shape := ⟨4, ![2, 32, 32, 256]⟩
abbrev S2x16x16x256 : Shape := ⟨4, ![2, 16, 16, 256]⟩
abbrev S2x8x8x256 : Shape := ⟨4, ![2, 8, 8, 256]⟩
abbrev S3x3x256x512 : Shape := ⟨4, ![3, 3, 256, 512]⟩
abbrev S512 : Shape := ⟨1, ![512]⟩
abbrev S1x1x512x6 : Shape := ⟨4, ![1, 1, 512, 6]⟩
abbrev S6 : Shape := ⟨1, ![6]⟩
abbrev S1x1x512x12 : Shape := ⟨4, ![1, 1, 512, 12]⟩
abbrev S12 : Shape := ⟨1, ![12]⟩
abbrev S1x512 : Shape := ⟨2, ![1, 512]⟩
abbrev S512x6 : Shape := ⟨2, ![512, 6]⟩
abbrev S_ : Shape := ⟨0, ![]⟩
abbrev S6x1 : Shape := ⟨2, ![6, 1]⟩
abbrev S512x12 : Shape := ⟨2, ![512, 12]⟩
abbrev S512x24 : Shape := ⟨2, ![512, 24]⟩
abbrev S24 : Shape := ⟨1, ![24]⟩
abbrev S1x24 : Shape := ⟨2, ![1, 24]⟩
abbrev S2x130x136x256 : Shape := ⟨4, ![2, 130, 136, 256]⟩
abbrev S2x17680x256 : Shape := ⟨3, ![2, 17680, 256]⟩
abbrev S2x66x72x256 : Shape := ⟨4, ![2, 66, 72, 256]⟩
abbrev S2x4752x256 : Shape := ⟨3, ![2, 4752, 256]⟩
abbrev S2x34x40x256 : Shape := ⟨4, ![2, 34, 40, 256]⟩
abbrev S2x1360x256 : Shape := ⟨3, ![2, 1360, 256]⟩
abbrev S2x18x24x256 : Shape := ⟨4, ![2, 18, 24, 256]⟩
abbrev S2x432x256 : Shape := ⟨3, ![2, 432, 256]⟩
abbrev S2x10x16x256 : Shape := ⟨4, ![2, 10, 16, 256]⟩
abbrev S2x160x256 : Shape := ⟨3, ![2, 160, 256]⟩
abbrev S2x24384x256 : Shape := ⟨3, ![2, 24384, 256]⟩
abbrev S2x16384x6 : Shape := ⟨3, ![2, 16384, 6]⟩
abbrev S2x16384x12 : Shape := ⟨3, ![2, 16384, 12]⟩
abbrev S2x4096x6 : Shape := ⟨3, ![2, 4096, 6]⟩
abbrev S2x4096x12 : Shape := ⟨3, ![2, 4096, 12]⟩
abbrev S2x1024x6 : Shape := ⟨3, ![2, 1024, 6]⟩
abbrev S2x1024x12 : Shape := ⟨3, ![2, 1024, 12]⟩
abbrev S2x256x6 : Shape := ⟨3, ![2, 256, 6]⟩
abbrev S2x256x12 : Shape := ⟨3, ![2, 256, 12]⟩
abbrev S2x64x6 : Shape := ⟨3, ![2, 64, 6]⟩
abbrev S2x64x12 : Shape := ⟨3, ![2, 64, 12]⟩
abbrev S1x24384x256 : Shape := ⟨3, ![1, 24384, 256]⟩
abbrev S1x1024x6 : Shape := ⟨3, ![1, 1024, 6]⟩
abbrev S1x1024x12 : Shape := ⟨3, ![1, 1024, 12]⟩
abbrev S1x256x6 : Shape := ⟨3, ![1, 256, 6]⟩
abbrev S1x256x12 : Shape := ⟨3, ![1, 256, 12]⟩
abbrev S1x64x6 : Shape := ⟨3, ![1, 64, 6]⟩
abbrev S1x64x12 : Shape := ⟨3, ![1, 64, 12]⟩
abbrev S1x1360x256 : Shape := ⟨3, ![1, 1360, 256]⟩
abbrev S1360x256 : Shape := ⟨2, ![1360, 256]⟩
abbrev S10x136x256 : Shape := ⟨3, ![10, 136, 256]⟩
abbrev S1024x512 : Shape := ⟨2, ![1024, 512]⟩
abbrev S10x128x256 : Shape := ⟨3, ![10, 128, 256]⟩
abbrev S8x128x256 : Shape := ⟨3, ![8, 128, 256]⟩
abbrev S1024x256 : Shape := ⟨2, ![1024, 256]⟩
abbrev S1x1x256x512 : Shape := ⟨4, ![1, 1, 256, 512]⟩
abbrev S256x512 : Shape := ⟨2, ![256, 512]⟩
abbrev S1024x24 : Shape := ⟨2, ![1024, 24]⟩
abbrev S1024x6 : Shape := ⟨2, ![1024, 6]⟩
abbrev S1024x12 : Shape := ⟨2, ![1024, 12]⟩
abbrev S1x1296x256 : Shape := ⟨3, ![1, 1296, 256]⟩
abbrev S1296x256 : Shape := ⟨2, ![1296, 256]⟩
abbrev S18x72x256 : Shape := ⟨3, ![18, 72, 256]⟩
abbrev S18x64x256 : Shape := ⟨3, ![18, 64, 256]⟩
abbrev S16x64x256 : Shape := ⟨3, ![16, 64, 256]⟩
abbrev S34x40x256 : Shape := ⟨3, ![34, 40, 256]⟩
abbrev S34x32x256 : Shape := ⟨3, ![34, 32, 256]⟩
abbrev S32x32x256 : Shape := ⟨3, ![32, 32, 256]⟩
abbrev S1x432x256 : Shape := ⟨3, ![1, 432, 256]⟩
abbrev S432x256 : Shape := ⟨2, ![432, 256]⟩
abbrev S18x24x256 : Shape := ⟨3, ![18, 24, 256]⟩
abbrev S18x16x256 : Shape := ⟨3, ![18, 16, 256]⟩
abbrev S16x16x256 : Shape := ⟨3, ![16, 16, 256]⟩
abbrev S256x256 : Shape := ⟨2, ![256, 256]⟩
abbrev S256x24 : Shape := ⟨2, ![256, 24]⟩
abbrev S256x6 : Shape := ⟨2, ![256, 6]⟩
abbrev S256x12 : Shape := ⟨2, ![256, 12]⟩
abbrev S1x160x256 : Shape := ⟨3, ![1, 160, 256]⟩
abbrev S160x256 : Shape := ⟨2, ![160, 256]⟩
abbrev S10x16x256 : Shape := ⟨3, ![10, 16, 256]⟩
abbrev S64x512 : Shape := ⟨2, ![64, 512]⟩
abbrev S10x8x256 : Shape := ⟨3, ![10, 8, 256]⟩
abbrev S8x8x256 : Shape := ⟨3, ![8, 8, 256]⟩
abbrev S64x256 : Shape := ⟨2, ![64, 256]⟩
abbrev S64x24 : Shape := ⟨2, ![64, 24]⟩
abbrev S64x6 : Shape := ⟨2, ![64, 6]⟩
abbrev S64x12 : Shape := ⟨2, ![64, 12]⟩
abbrev S2x49152x2 : Shape := ⟨3, ![2, 49152, 2]⟩
abbrev S2x49152x4 : Shape := ⟨3, ![2, 49152, 4]⟩
abbrev S2x12288x2 : Shape := ⟨3, ![2, 12288, 2]⟩
abbrev S2x12288x4 : Shape := ⟨3, ![2, 12288, 4]⟩
abbrev S2x3072x2 : Shape := ⟨3, ![2, 3072, 2]⟩
abbrev S2x3072x4 : Shape := ⟨3, ![2, 3072, 4]⟩
abbrev S2x768x2 : Shape := ⟨3, ![2, 768, 2]⟩
abbrev S2x768x4 : Shape := ⟨3, ![2, 768, 4]⟩
abbrev S2x192x2 : Shape := ⟨3, ![2, 192, 2]⟩
abbrev S2x192x4 : Shape := ⟨3, ![2, 192, 4]⟩
abbrev S2x65472x2 : Shape := ⟨3, ![2, 65472, 2]⟩
abbrev S2x65472x4 : Shape := ⟨3, ![2, 65472, 4]⟩

abbrev nBuf : Space → Nat
  | .hbm => 97
  | .vmem => 36
  | .smem => 0
  | _ => 0

abbrev bufTy : (tb : Table) → Fin (tcTables nBuf tb) → BufTy
  | .hbm, ⟨0, _⟩ => ⟨S2x128x128x256, .f32⟩
  | .hbm, ⟨1, _⟩ => ⟨S2x64x64x256, .f32⟩
  | .hbm, ⟨2, _⟩ => ⟨S2x32x32x256, .f32⟩
  | .hbm, ⟨3, _⟩ => ⟨S2x16x16x256, .f32⟩
  | .hbm, ⟨4, _⟩ => ⟨S2x8x8x256, .f32⟩
  | .hbm, ⟨5, _⟩ => ⟨S3x3x256x512, .f32⟩
  | .hbm, ⟨6, _⟩ => ⟨S512, .f32⟩
  | .hbm, ⟨7, _⟩ => ⟨S1x1x512x6, .f32⟩
  | .hbm, ⟨8, _⟩ => ⟨S6, .f32⟩
  | .hbm, ⟨9, _⟩ => ⟨S1x1x512x12, .f32⟩
  | .hbm, ⟨10, _⟩ => ⟨S12, .f32⟩
  | .hbm, ⟨11, _⟩ => ⟨S6, .i32⟩
  | .hbm, ⟨12, _⟩ => ⟨S3x3x256x512, .bf16⟩
  | .hbm, ⟨13, _⟩ => ⟨S1x512, .f32⟩
  | .hbm, ⟨14, _⟩ => ⟨S512x6, .f32⟩
  | .hbm, ⟨15, _⟩ => ⟨S_, .i32⟩
  | .hbm, ⟨16, _⟩ => ⟨S6, .i32⟩
  | .hbm, ⟨17, _⟩ => ⟨S6, .i1⟩
  | .hbm, ⟨18, _⟩ => ⟨S_, .i32⟩
  | .hbm, ⟨19, _⟩ => ⟨S6, .i32⟩
  | .hbm, ⟨20, _⟩ => ⟨S6, .i32⟩
  | .hbm, ⟨21, _⟩ => ⟨S6, .i32⟩
  | .hbm, ⟨22, _⟩ => ⟨S6x1, .i32⟩
  | .hbm, ⟨23, _⟩ => ⟨S512x6, .f32⟩
  | .hbm, ⟨24, _⟩ => ⟨S512x12, .f32⟩
  | .hbm, ⟨25, _⟩ => ⟨S512x24, .f32⟩
  | .hbm, ⟨26, _⟩ => ⟨S512x24, .bf16⟩
  | .hbm, ⟨27, _⟩ => ⟨S_, .i32⟩
  | .hbm, ⟨28, _⟩ => ⟨S6, .i32⟩
  | .hbm, ⟨29, _⟩ => ⟨S6, .i1⟩
  | .hbm, ⟨30, _⟩ => ⟨S_, .i32⟩
  | .hbm, ⟨31, _⟩ => ⟨S6, .i32⟩
  | .hbm, ⟨32, _⟩ => ⟨S6, .i32⟩
  | .hbm, ⟨33, _⟩ => ⟨S6, .i32⟩
  | .hbm, ⟨34, _⟩ => ⟨S6x1, .i32⟩
  | .hbm, ⟨35, _⟩ => ⟨S6, .f32⟩
  | .hbm, ⟨36, _⟩ => ⟨S24, .f32⟩
  | .hbm, ⟨37, _⟩ => ⟨S1x24, .f32⟩
  | .hbm, ⟨38, _⟩ => ⟨S2x128x128x256, .bf16⟩
  | .hbm, ⟨39, _⟩ => ⟨S_, .i32⟩
  | .hbm, ⟨40, _⟩ => ⟨S_, .bf16⟩
  | .hbm, ⟨41, _⟩ => ⟨S2x130x136x256, .bf16⟩
  | .hbm, ⟨42, _⟩ => ⟨S2x17680x256, .bf16⟩
  | .hbm, ⟨43, _⟩ => ⟨S2x64x64x256, .bf16⟩
  | .hbm, ⟨44, _⟩ => ⟨S_, .i32⟩
  | .hbm, ⟨45, _⟩ => ⟨S_, .bf16⟩
  | .hbm, ⟨46, _⟩ => ⟨S2x66x72x256, .bf16⟩
  | .hbm, ⟨47, _⟩ => ⟨S2x4752x256, .bf16⟩
  | .hbm, ⟨48, _⟩ => ⟨S2x32x32x256, .bf16⟩
  | .hbm, ⟨49, _⟩ => ⟨S_, .i32⟩
  | .hbm, ⟨50, _⟩ => ⟨S_, .bf16⟩
  | .hbm, ⟨51, _⟩ => ⟨S2x34x40x256, .bf16⟩
  | .hbm, ⟨52, _⟩ => ⟨S2x1360x256, .bf16⟩
  | .hbm, ⟨53, _⟩ => ⟨S2x16x16x256, .bf16⟩
  | .hbm, ⟨54, _⟩ => ⟨S_, .i32⟩
  | .hbm, ⟨55, _⟩ => ⟨S_, .bf16⟩
  | .hbm, ⟨56, _⟩ => ⟨S2x18x24x256, .bf16⟩
  | .hbm, ⟨57, _⟩ => ⟨S2x432x256, .bf16⟩
  | .hbm, ⟨58, _⟩ => ⟨S2x8x8x256, .bf16⟩
  | .hbm, ⟨59, _⟩ => ⟨S_, .i32⟩
  | .hbm, ⟨60, _⟩ => ⟨S_, .bf16⟩
  | .hbm, ⟨61, _⟩ => ⟨S2x10x16x256, .bf16⟩
  | .hbm, ⟨62, _⟩ => ⟨S2x160x256, .bf16⟩
  | .hbm, ⟨63, _⟩ => ⟨S2x24384x256, .bf16⟩
  | .hbm, ⟨64, _⟩ => ⟨S2x16384x6, .f32⟩
  | .hbm, ⟨65, _⟩ => ⟨S2x16384x6, .f32⟩
  | .hbm, ⟨66, _⟩ => ⟨S2x16384x12, .f32⟩
  | .hbm, ⟨67, _⟩ => ⟨S2x4096x6, .f32⟩
  | .hbm, ⟨68, _⟩ => ⟨S2x4096x6, .f32⟩
  | .hbm, ⟨69, _⟩ => ⟨S2x4096x12, .f32⟩
  | .hbm, ⟨70, _⟩ => ⟨S2x1024x6, .f32⟩
  | .hbm, ⟨71, _⟩ => ⟨S2x1024x6, .f32⟩
  | .hbm, ⟨72, _⟩ => ⟨S2x1024x12, .f32⟩
  | .hbm, ⟨73, _⟩ => ⟨S2x256x6, .f32⟩
  | .hbm, ⟨74, _⟩ => ⟨S2x256x6, .f32⟩
  | .hbm, ⟨75, _⟩ => ⟨S2x256x12, .f32⟩
  | .hbm, ⟨76, _⟩ => ⟨S2x64x6, .f32⟩
  | .hbm, ⟨77, _⟩ => ⟨S2x64x6, .f32⟩
  | .hbm, ⟨78, _⟩ => ⟨S2x64x12, .f32⟩
  | .hbm, ⟨79, _⟩ => ⟨S2x49152x2, .f32⟩
  | .hbm, ⟨80, _⟩ => ⟨S2x49152x2, .f32⟩
  | .hbm, ⟨81, _⟩ => ⟨S2x49152x4, .f32⟩
  | .hbm, ⟨82, _⟩ => ⟨S2x12288x2, .f32⟩
  | .hbm, ⟨83, _⟩ => ⟨S2x12288x2, .f32⟩
  | .hbm, ⟨84, _⟩ => ⟨S2x12288x4, .f32⟩
  | .hbm, ⟨85, _⟩ => ⟨S2x3072x2, .f32⟩
  | .hbm, ⟨86, _⟩ => ⟨S2x3072x2, .f32⟩
  | .hbm, ⟨87, _⟩ => ⟨S2x3072x4, .f32⟩
  | .hbm, ⟨88, _⟩ => ⟨S2x768x2, .f32⟩
  | .hbm, ⟨89, _⟩ => ⟨S2x768x2, .f32⟩
  | .hbm, ⟨90, _⟩ => ⟨S2x768x4, .f32⟩
  | .hbm, ⟨91, _⟩ => ⟨S2x192x2, .f32⟩
  | .hbm, ⟨92, _⟩ => ⟨S2x192x2, .f32⟩
  | .hbm, ⟨93, _⟩ => ⟨S2x192x4, .f32⟩
  | .hbm, ⟨94, _⟩ => ⟨S2x65472x2, .f32⟩
  | .hbm, ⟨95, _⟩ => ⟨S2x65472x2, .f32⟩
  | .hbm, ⟨96, _⟩ => ⟨S2x65472x4, .f32⟩
  | .local _ .vmem, ⟨0, _⟩ => ⟨S1x24384x256, .bf16⟩
  | .local _ .vmem, ⟨1, _⟩ => ⟨S1x24384x256, .bf16⟩
  | .local _ .vmem, ⟨2, _⟩ => ⟨S3x3x256x512, .bf16⟩
  | .local _ .vmem, ⟨3, _⟩ => ⟨S1x512, .f32⟩
  | .local _ .vmem, ⟨4, _⟩ => ⟨S512x24, .bf16⟩
  | .local _ .vmem, ⟨5, _⟩ => ⟨S1x24, .f32⟩
  | .local _ .vmem, ⟨6, _⟩ => ⟨S1x1024x6, .f32⟩
  | .local _ .vmem, ⟨7, _⟩ => ⟨S1x1024x6, .f32⟩
  | .local _ .vmem, ⟨8, _⟩ => ⟨S1x1024x6, .f32⟩
  | .local _ .vmem, ⟨9, _⟩ => ⟨S1x1024x6, .f32⟩
  | .local _ .vmem, ⟨10, _⟩ => ⟨S1x1024x12, .f32⟩
  | .local _ .vmem, ⟨11, _⟩ => ⟨S1x1024x12, .f32⟩
  | .local _ .vmem, ⟨12, _⟩ => ⟨S1x1024x6, .f32⟩
  | .local _ .vmem, ⟨13, _⟩ => ⟨S1x1024x6, .f32⟩
  | .local _ .vmem, ⟨14, _⟩ => ⟨S1x1024x6, .f32⟩
  | .local _ .vmem, ⟨15, _⟩ => ⟨S1x1024x6, .f32⟩
  | .local _ .vmem, ⟨16, _⟩ => ⟨S1x1024x12, .f32⟩
  | .local _ .vmem, ⟨17, _⟩ => ⟨S1x1024x12, .f32⟩
  | .local _ .vmem, ⟨18, _⟩ => ⟨S1x1024x6, .f32⟩
  | .local _ .vmem, ⟨19, _⟩ => ⟨S1x1024x6, .f32⟩
  | .local _ .vmem, ⟨20, _⟩ => ⟨S1x1024x6, .f32⟩
  | .local _ .vmem, ⟨21, _⟩ => ⟨S1x1024x6, .f32⟩
  | .local _ .vmem, ⟨22, _⟩ => ⟨S1x1024x12, .f32⟩
  | .local _ .vmem, ⟨23, _⟩ => ⟨S1x1024x12, .f32⟩
  | .local _ .vmem, ⟨24, _⟩ => ⟨S1x256x6, .f32⟩
  | .local _ .vmem, ⟨25, _⟩ => ⟨S1x256x6, .f32⟩
  | .local _ .vmem, ⟨26, _⟩ => ⟨S1x256x6, .f32⟩
  | .local _ .vmem, ⟨27, _⟩ => ⟨S1x256x6, .f32⟩
  | .local _ .vmem, ⟨28, _⟩ => ⟨S1x256x12, .f32⟩
  | .local _ .vmem, ⟨29, _⟩ => ⟨S1x256x12, .f32⟩
  | .local _ .vmem, ⟨30, _⟩ => ⟨S1x64x6, .f32⟩
  | .local _ .vmem, ⟨31, _⟩ => ⟨S1x64x6, .f32⟩
  | .local _ .vmem, ⟨32, _⟩ => ⟨S1x64x6, .f32⟩
  | .local _ .vmem, ⟨33, _⟩ => ⟨S1x64x6, .f32⟩
  | .local _ .vmem, ⟨34, _⟩ => ⟨S1x64x12, .f32⟩
  | .local _ .vmem, ⟨35, _⟩ => ⟨S1x64x12, .f32⟩
  | _, _ => ⟨S2x128x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_call0_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_call1_v0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_call2_v0 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_call3_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_call4_v0 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38_0 : Ref sig .tc := ⟨.hbm, 64, rfl⟩
abbrev main_v38_1 : Ref sig .tc := ⟨.hbm, 65, rfl⟩
abbrev main_v38_2 : Ref sig .tc := ⟨.hbm, 66, rfl⟩
abbrev main_v38_3 : Ref sig .tc := ⟨.hbm, 67, rfl⟩
abbrev main_v38_4 : Ref sig .tc := ⟨.hbm, 68, rfl⟩
abbrev main_v38_5 : Ref sig .tc := ⟨.hbm, 69, rfl⟩
abbrev main_v38_6 : Ref sig .tc := ⟨.hbm, 70, rfl⟩
abbrev main_v38_7 : Ref sig .tc := ⟨.hbm, 71, rfl⟩
abbrev main_v38_8 : Ref sig .tc := ⟨.hbm, 72, rfl⟩
abbrev main_v38_9 : Ref sig .tc := ⟨.hbm, 73, rfl⟩
abbrev main_v38_10 : Ref sig .tc := ⟨.hbm, 74, rfl⟩
abbrev main_v38_11 : Ref sig .tc := ⟨.hbm, 75, rfl⟩
abbrev main_v38_12 : Ref sig .tc := ⟨.hbm, 76, rfl⟩
abbrev main_v38_13 : Ref sig .tc := ⟨.hbm, 77, rfl⟩
abbrev main_v38_14 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35

abbrev nD : Nat := 1
abbrev τ : Topo := Topo.v7x

variable {F : FTy → Type} [FloatOps F]

abbrev grid0 : Pipeline.Grid := ⟨2, ![2, 23], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c16_i32 : BitVec 32 := 16#32
  let v1 : BitVec 1 := Scalar.cmpi .slt arg1 c16_i32
  let v2 : BitVec 1 := Scalar.andi v0 v1
  let v3 : BitVec 32 := Scalar.extui v2
  let c0_i32_0 : BitVec 32 := 0#32
  let v4 : BitVec 1 := Scalar.cmpi .ne v3 c0_i32_0
  v4

def k0_off1 (i : grid0.Coords) : Fin 3 → Nat :=
  let c0 : Index := 0#32
  let c0_i32_10 : BitVec 32 := 0#32
  let arg1 : BitVec 32 := BitVec.ofNat 32 (i 1).val
  let c0_i32_9 : BitVec 32 := 0#32
  let v25 : BitVec 32 := Scalar.subi arg1 c0_i32_9
  let c8_i32 : BitVec 32 := 8#32
  let v26 : BitVec 32 := Scalar.muli v25 c8_i32
  let c136_i32 : BitVec 32 := 136#32
  let v27 : BitVec 32 := Scalar.muli v26 c136_i32
  let v28 : BitVec 32 := Scalar.addi c0_i32_10 v27
  let v29 : Index := Scalar.indexCast v28
  let c0_11 : Index := 0#32
  ![0, v29.toNat, 0]
def k0_cond2 (i : grid0.Coords) : BitVec 1 :=
  let arg1 : BitVec 32 := BitVec.ofNat 32 (i 1).val
  let c16_i32_1 : BitVec 32 := 16#32
  let v5 : BitVec 1 := Scalar.cmpi .sge arg1 c16_i32_1
  let c20_i32 : BitVec 32 := 20#32
  let v6 : BitVec 1 := Scalar.cmpi .slt arg1 c20_i32
  let v7 : BitVec 1 := Scalar.andi v5 v6
  let v8 : BitVec 32 := Scalar.extui v7
  let c0_i32_2 : BitVec 32 := 0#32
  let v9 : BitVec 1 := Scalar.cmpi .ne v8 c0_i32_2
  v9

def k0_off2 (i : grid0.Coords) : Fin 3 → Nat :=
  let c0 : Index := 0#32
  let c17680_i32 : BitVec 32 := 17680#32
  let arg1 : BitVec 32 := BitVec.ofNat 32 (i 1).val
  let c16_i32_9 : BitVec 32 := 16#32
  let v25 : BitVec 32 := Scalar.subi arg1 c16_i32_9
  let c16_i32_10 : BitVec 32 := 16#32
  let v26 : BitVec 32 := Scalar.muli v25 c16_i32_10
  let c72_i32 : BitVec 32 := 72#32
  let v27 : BitVec 32 := Scalar.muli v26 c72_i32
  let v28 : BitVec 32 := Scalar.addi c17680_i32 v27
  let v29 : Index := Scalar.indexCast v28
  let c0_11 : Index := 0#32
  ![0, v29.toNat, 0]
def k0_cond3 (i : grid0.Coords) : BitVec 1 :=
  let arg1 : BitVec 32 := BitVec.ofNat 32 (i 1).val
  let c20_i32_3 : BitVec 32 := 20#32
  let v10 : BitVec 1 := Scalar.cmpi .sge arg1 c20_i32_3
  let c21_i32 : BitVec 32 := 21#32
  let v11 : BitVec 1 := Scalar.cmpi .slt arg1 c21_i32
  let v12 : BitVec 1 := Scalar.andi v10 v11
  let v13 : BitVec 32 := Scalar.extui v12
  let c0_i32_4 : BitVec 32 := 0#32
  let v14 : BitVec 1 := Scalar.cmpi .ne v13 c0_i32_4
  v14

def k0_off3 (i : grid0.Coords) : Fin 3 → Nat :=
  let c0 : Index := 0#32
  let c22432_i32 : BitVec 32 := 22432#32
  let arg1 : BitVec 32 := BitVec.ofNat 32 (i 1).val
  let c20_i32_9 : BitVec 32 := 20#32
  let v25 : BitVec 32 := Scalar.subi arg1 c20_i32_9
  let c32_i32 : BitVec 32 := 32#32
  let v26 : BitVec 32 := Scalar.muli v25 c32_i32
  let c40_i32 : BitVec 32 := 40#32
  let v27 : BitVec 32 := Scalar.muli v26 c40_i32
  let v28 : BitVec 32 := Scalar.addi c22432_i32 v27
  let v29 : Index := Scalar.indexCast v28
  let c0_10 : Index := 0#32
  ![0, v29.toNat, 0]
def k0_cond4 (i : grid0.Coords) : BitVec 1 :=
  let arg1 : BitVec 32 := BitVec.ofNat 32 (i 1).val
  let c21_i32_5 : BitVec 32 := 21#32
  let v15 : BitVec 1 := Scalar.cmpi .sge arg1 c21_i32_5
  let c22_i32 : BitVec 32 := 22#32
  let v16 : BitVec 1 := Scalar.cmpi .slt arg1 c22_i32
  let v17 : BitVec 1 := Scalar.andi v15 v16
  let v18 : BitVec 32 := Scalar.extui v17
  let c0_i32_6 : BitVec 32 := 0#32
  let v19 : BitVec 1 := Scalar.cmpi .ne v18 c0_i32_6
  v19

def k0_off4 (i : grid0.Coords) : Fin 3 → Nat :=
  let c0 : Index := 0#32
  let c23792_i32 : BitVec 32 := 23792#32
  let arg1 : BitVec 32 := BitVec.ofNat 32 (i 1).val
  let c21_i32_9 : BitVec 32 := 21#32
  let v25 : BitVec 32 := Scalar.subi arg1 c21_i32_9
  let c16_i32_10 : BitVec 32 := 16#32
  let v26 : BitVec 32 := Scalar.muli v25 c16_i32_10
  let c24_i32 : BitVec 32 := 24#32
  let v27 : BitVec 32 := Scalar.muli v26 c24_i32
  let v28 : BitVec 32 := Scalar.addi c23792_i32 v27
  let v29 : Index := Scalar.indexCast v28
  let c0_11 : Index := 0#32
  ![0, v29.toNat, 0]
def k0_cond5 (i : grid0.Coords) : BitVec 1 :=
  let arg1 : BitVec 32 := BitVec.ofNat 32 (i 1).val
  let c22_i32_7 : BitVec 32 := 22#32
  let v20 : BitVec 1 := Scalar.cmpi .sge arg1 c22_i32_7
  let c23_i32 : BitVec 32 := 23#32
  let v21 : BitVec 1 := Scalar.cmpi .slt arg1 c23_i32
  let v22 : BitVec 1 := Scalar.andi v20 v21
  let v23 : BitVec 32 := Scalar.extui v22
  let c0_i32_8 : BitVec 32 := 0#32
  let v24 : BitVec 1 := Scalar.cmpi .ne v23 c0_i32_8
  v24

def k0_off5 (i : grid0.Coords) : Fin 3 → Nat :=
  let c0 : Index := 0#32
  let c24224_i32 : BitVec 32 := 24224#32
  let arg1 : BitVec 32 := BitVec.ofNat 32 (i 1).val
  let c22_i32_9 : BitVec 32 := 22#32
  let v25 : BitVec 32 := Scalar.subi arg1 c22_i32_9
  let c8_i32 : BitVec 32 := 8#32
  let v26 : BitVec 32 := Scalar.muli v25 c8_i32
  let c16_i32_10 : BitVec 32 := 16#32
  let v27 : BitVec 32 := Scalar.muli v26 c16_i32_10
  let v28 : BitVec 32 := Scalar.addi c24224_i32 v27
  let v29 : Index := Scalar.indexCast v28
  let c0_11 : Index := 0#32
  ![0, v29.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![arg0.toNat, v2.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![arg0.toNat, v2.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![arg0.toNat, v2.toNat, c0_i32_1.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![arg0.toNat, v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![arg0.toNat, v2.toNat, c0_i32_0.toNat]

def cc0_transform_10 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![arg0.toNat, v2.toNat, c0_i32_0.toNat]

def cc0_transform_11 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.subi arg1 c20_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![arg0.toNat, v2.toNat, c0_i32_1.toNat]

def cc0_transform_12 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.subi arg1 c20_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![arg0.toNat, v2.toNat, c0_i32_1.toNat]

def cc0_transform_13 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.subi arg1 c20_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![arg0.toNat, v2.toNat, c0_i32_1.toNat]

def cc0_transform_14 (i : grid0.Coords) : Fin 3 → Nat :=
  let arg0 : BitVec 32 := BitVec.ofNat 32 (i 0).val
  let arg1 : BitVec 32 := BitVec.ofNat 32 (i 1).val
  let c21_i32 : BitVec 32 := 21#32
  let v0 : BitVec 32 := Scalar.subi arg1 c21_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![arg0.toNat, v2.toNat, c0_i32_1.toNat]

def cc0_transform_15 (i : grid0.Coords) : Fin 3 → Nat :=
  let arg0 : BitVec 32 := BitVec.ofNat 32 (i 0).val
  let arg1 : BitVec 32 := BitVec.ofNat 32 (i 1).val
  let c21_i32 : BitVec 32 := 21#32
  let v0 : BitVec 32 := Scalar.subi arg1 c21_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![arg0.toNat, v2.toNat, c0_i32_1.toNat]

def cc0_transform_16 (i : grid0.Coords) : Fin 3 → Nat :=
  let arg0 : BitVec 32 := BitVec.ofNat 32 (i 0).val
  let arg1 : BitVec 32 := BitVec.ofNat 32 (i 1).val
  let c21_i32 : BitVec 32 := 21#32
  let v0 : BitVec 32 := Scalar.subi arg1 c21_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![arg0.toNat, v2.toNat, c0_i32_1.toNat]

def cc0_transform_17 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.subi arg1 c22_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![arg0.toNat, v2.toNat, c0_i32_1.toNat]

def cc0_transform_18 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.subi arg1 c22_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![arg0.toNat, v2.toNat, c0_i32_1.toNat]

def cc0_transform_19 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.subi arg1 c22_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![arg0.toNat, v2.toNat, c0_i32_1.toNat]

abbrev stage0_0 : Fin 2 → Memref sig .tc .vmem S1x24384x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3x3x256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x24 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x6 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x6 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x12 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x6 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x6 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x12 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x6 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x6 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x12 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x6 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x6 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x12 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x64x6 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x64x6 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x64x12 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ReferenceIdeal.lean ====
abbrev S2x128x128x256 : Shape := ⟨4, ![2, 128, 128, 256]⟩
abbrev S2x64x64x256 : Shape := ⟨4, ![2, 64, 64, 256]⟩
abbrev S2x32x32x256 : Shape := ⟨4, ![2, 32, 32, 256]⟩
abbrev S2x16x16x256 : Shape := ⟨4, ![2, 16, 16, 256]⟩
abbrev S2x8x8x256 : Shape := ⟨4, ![2, 8, 8, 256]⟩
abbrev S3x3x256x512 : Shape := ⟨4, ![3, 3, 256, 512]⟩
abbrev S512 : Shape := ⟨1, ![512]⟩
abbrev S1x1x512x6 : Shape := ⟨4, ![1, 1, 512, 6]⟩
abbrev S6 : Shape := ⟨1, ![6]⟩
abbrev S1x1x512x12 : Shape := ⟨4, ![1, 1, 512, 12]⟩
abbrev S12 : Shape := ⟨1, ![12]⟩
abbrev S_ : Shape := ⟨0, ![]⟩
abbrev S2x130x130x256 : Shape := ⟨4, ![2, 130, 130, 256]⟩
abbrev S1x1x256x512 : Shape := ⟨4, ![1, 1, 256, 512]⟩
abbrev S256x512 : Shape := ⟨2, ![256, 512]⟩
abbrev S2x128x128x512 : Shape := ⟨4, ![2, 128, 128, 512]⟩
abbrev S1x1x1x512 : Shape := ⟨4, ![1, 1, 1, 512]⟩
abbrev S512x6 : Shape := ⟨2, ![512, 6]⟩
abbrev S2x128x128x6 : Shape := ⟨4, ![2, 128, 128, 6]⟩
abbrev S1x1x1x6 : Shape := ⟨4, ![1, 1, 1, 6]⟩
abbrev S2x49152x2 : Shape := ⟨3, ![2, 49152, 2]⟩
abbrev S2x49152 : Shape := ⟨2, ![2, 49152]⟩
abbrev S2x49152x1 : Shape := ⟨3, ![2, 49152, 1]⟩
abbrev S512x12 : Shape := ⟨2, ![512, 12]⟩
abbrev S2x128x128x12 : Shape := ⟨4, ![2, 128, 128, 12]⟩
abbrev S1x1x1x12 : Shape := ⟨4, ![1, 1, 1, 12]⟩
abbrev S2x49152x4 : Shape := ⟨3, ![2, 49152, 4]⟩
abbrev S2x66x66x256 : Shape := ⟨4, ![2, 66, 66, 256]⟩
abbrev S2x64x64x512 : Shape := ⟨4, ![2, 64, 64, 512]⟩
abbrev S2x64x64x6 : Shape := ⟨4, ![2, 64, 64, 6]⟩
abbrev S2x12288x2 : Shape := ⟨3, ![2, 12288, 2]⟩
abbrev S2x12288 : Shape := ⟨2, ![2, 12288]⟩
abbrev S2x12288x1 : Shape := ⟨3, ![2, 12288, 1]⟩
abbrev S2x64x64x12 : Shape := ⟨4, ![2, 64, 64, 12]⟩
abbrev S2x12288x4 : Shape := ⟨3, ![2, 12288, 4]⟩
abbrev S2x34x34x256 : Shape := ⟨4, ![2, 34, 34, 256]⟩
abbrev S2x32x32x512 : Shape := ⟨4, ![2, 32, 32, 512]⟩
abbrev S2x32x32x6 : Shape := ⟨4, ![2, 32, 32, 6]⟩
abbrev S2x3072x2 : Shape := ⟨3, ![2, 3072, 2]⟩
abbrev S2x3072 : Shape := ⟨2, ![2, 3072]⟩
abbrev S2x3072x1 : Shape := ⟨3, ![2, 3072, 1]⟩
abbrev S2x32x32x12 : Shape := ⟨4, ![2, 32, 32, 12]⟩
abbrev S2x3072x4 : Shape := ⟨3, ![2, 3072, 4]⟩
abbrev S2x18x18x256 : Shape := ⟨4, ![2, 18, 18, 256]⟩
abbrev S2x16x16x512 : Shape := ⟨4, ![2, 16, 16, 512]⟩
abbrev S2x16x16x6 : Shape := ⟨4, ![2, 16, 16, 6]⟩
abbrev S2x768x2 : Shape := ⟨3, ![2, 768, 2]⟩
abbrev S2x768 : Shape := ⟨2, ![2, 768]⟩
abbrev S2x768x1 : Shape := ⟨3, ![2, 768, 1]⟩
abbrev S2x16x16x12 : Shape := ⟨4, ![2, 16, 16, 12]⟩
abbrev S2x768x4 : Shape := ⟨3, ![2, 768, 4]⟩
abbrev S2x10x10x256 : Shape := ⟨4, ![2, 10, 10, 256]⟩
abbrev S2x8x8x512 : Shape := ⟨4, ![2, 8, 8, 512]⟩
abbrev S2x8x8x6 : Shape := ⟨4, ![2, 8, 8, 6]⟩
abbrev S2x192x2 : Shape := ⟨3, ![2, 192, 2]⟩
abbrev S2x192 : Shape := ⟨2, ![2, 192]⟩
abbrev S2x192x1 : Shape := ⟨3, ![2, 192, 1]⟩
abbrev S2x8x8x12 : Shape := ⟨4, ![2, 8, 8, 12]⟩
abbrev S2x192x4 : Shape := ⟨3, ![2, 192, 4]⟩
abbrev S2x65472x2 : Shape := ⟨3, ![2, 65472, 2]⟩
abbrev S2x65472x4 : Shape := ⟨3, ![2, 65472, 4]⟩

abbrev nBuf : Space → Nat
  | .hbm => 424
  | .vmem => 0
  | .smem => 0
  | _ => 0

abbrev hbmTy0_0 (i : Nat) : BufTy := match i % 128 with
  | 0 => ⟨S2x128x128x256, .f32⟩
  | 1 => ⟨S2x64x64x256, .f32⟩
  | 2 => ⟨S2x32x32x256, .f32⟩
  | 3 => ⟨S2x16x16x256, .f32⟩
  | 4 => ⟨S2x8x8x256, .f32⟩
  | 5 => ⟨S3x3x256x512, .f32⟩
  | 6 => ⟨S512, .f32⟩
  | 7 => ⟨S1x1x512x6, .f32⟩
  | 8 => ⟨S6, .f32⟩
  | 9 => ⟨S1x1x512x12, .f32⟩
  | 10 => ⟨S12, .f32⟩
  | 11 => ⟨S_, .i32⟩
  | 12 => ⟨S_, .f32⟩
  | 13 => ⟨S2x130x130x256, .f32⟩
  | 14 => ⟨S2x128x128x256, .f32⟩
  | 15 => ⟨S1x1x256x512, .f32⟩
  | 16 => ⟨S256x512, .f32⟩
  | 17 => ⟨S2x128x128x512, .f32⟩
  | 18 => ⟨S_, .f32⟩
  | 19 => ⟨S2x128x128x512, .f32⟩
  | 20 => ⟨S2x128x128x512, .f32⟩
  | 21 => ⟨S2x128x128x256, .f32⟩
  | 22 => ⟨S1x1x256x512, .f32⟩
  | 23 => ⟨S256x512, .f32⟩
  | 24 => ⟨S2x128x128x512, .f32⟩
  | 25 => ⟨S2x128x128x512, .f32⟩
  | 26 => ⟨S2x128x128x256, .f32⟩
  | 27 => ⟨S1x1x256x512, .f32⟩
  | 28 => ⟨S256x512, .f32⟩
  | 29 => ⟨S2x128x128x512, .f32⟩
  | 30 => ⟨S2x128x128x512, .f32⟩
  | 31 => ⟨S2x128x128x256, .f32⟩
  | 32 => ⟨S1x1x256x512, .f32⟩
  | 33 => ⟨S256x512, .f32⟩
  | 34 => ⟨S2x128x128x512, .f32⟩
  | 35 => ⟨S2x128x128x512, .f32⟩
  | 36 => ⟨S2x128x128x256, .f32⟩
  | 37 => ⟨S1x1x256x512, .f32⟩
  | 38 => ⟨S256x512, .f32⟩
  | 39 => ⟨S2x128x128x512, .f32⟩
  | 40 => ⟨S2x128x128x512, .f32⟩
  | 41 => ⟨S2x128x128x256, .f32⟩
  | 42 => ⟨S1x1x256x512, .f32⟩
  | 43 => ⟨S256x512, .f32⟩
  | 44 => ⟨S2x128x128x512, .f32⟩
  | 45 => ⟨S2x128x128x512, .f32⟩
  | 46 => ⟨S2x128x128x256, .f32⟩
  | 47 => ⟨S1x1x256x512, .f32⟩
  | 48 => ⟨S256x512, .f32⟩
  | 49 => ⟨S2x128x128x512, .f32⟩
  | 50 => ⟨S2x128x128x512, .f32⟩
  | 51 => ⟨S2x128x128x256, .f32⟩
  | 52 => ⟨S1x1x256x512, .f32⟩
  | 53 => ⟨S256x512, .f32⟩
  | 54 => ⟨S2x128x128x512, .f32⟩
  | 55 => ⟨S2x128x128x512, .f32⟩
  | 56 => ⟨S2x128x128x256, .f32⟩
  | 57 => ⟨S1x1x256x512, .f32⟩
  | 58 => ⟨S256x512, .f32⟩
  | 59 => ⟨S2x128x128x512, .f32⟩
  | 60 => ⟨S2x128x128x512, .f32⟩
  | 61 => ⟨S1x1x1x512, .f32⟩
  | 62 => ⟨S2x128x128x512, .f32⟩
  | 63 => ⟨S2x128x128x512, .f32⟩
  | 64 => ⟨S_, .f32⟩
  | 65 => ⟨S2x128x128x512, .f32⟩
  | 66 => ⟨S2x128x128x512, .f32⟩
  | 67 => ⟨S512x6, .f32⟩
  | 68 => ⟨S2x128x128x6, .f32⟩
  | 69 => ⟨S1x1x1x6, .f32⟩
  | 70 => ⟨S2x128x128x6, .f32⟩
  | 71 => ⟨S2x128x128x6, .f32⟩
  | 72 => ⟨S2x49152x2, .f32⟩
  | 73 => ⟨S_, .f32⟩
  | 74 => ⟨S2x49152, .f32⟩
  | 75 => ⟨S_, .f32⟩
  | 76 => ⟨S2x49152, .f32⟩
  | 77 => ⟨S2x49152, .f32⟩
  | 78 => ⟨S2x49152x1, .f32⟩
  | 79 => ⟨S2x49152x2, .f32⟩
  | 80 => ⟨S2x49152x2, .f32⟩
  | 81 => ⟨S2x49152x2, .f32⟩
  | 82 => ⟨S_, .f32⟩
  | 83 => ⟨S2x49152, .f32⟩
  | 84 => ⟨S2x49152x1, .f32⟩
  | 85 => ⟨S2x49152x2, .f32⟩
  | 86 => ⟨S2x49152x2, .f32⟩
  | 87 => ⟨S512x12, .f32⟩
  | 88 => ⟨S2x128x128x12, .f32⟩
  | 89 => ⟨S1x1x1x12, .f32⟩
  | 90 => ⟨S2x128x128x12, .f32⟩
  | 91 => ⟨S2x128x128x12, .f32⟩
  | 92 => ⟨S2x49152x4, .f32⟩
  | 93 => ⟨S_, .i32⟩
  | 94 => ⟨S_, .f32⟩
  | 95 => ⟨S2x66x66x256, .f32⟩
  | 96 => ⟨S2x64x64x256, .f32⟩
  | 97 => ⟨S1x1x256x512, .f32⟩
  | 98 => ⟨S256x512, .f32⟩
  | 99 => ⟨S2x64x64x512, .f32⟩
  | 100 => ⟨S_, .f32⟩
  | 101 => ⟨S2x64x64x512, .f32⟩
  | 102 => ⟨S2x64x64x512, .f32⟩
  | 103 => ⟨S2x64x64x256, .f32⟩
  | 104 => ⟨S1x1x256x512, .f32⟩
  | 105 => ⟨S256x512, .f32⟩
  | 106 => ⟨S2x64x64x512, .f32⟩
  | 107 => ⟨S2x64x64x512, .f32⟩
  | 108 => ⟨S2x64x64x256, .f32⟩
  | 109 => ⟨S1x1x256x512, .f32⟩
  | 110 => ⟨S256x512, .f32⟩
  | 111 => ⟨S2x64x64x512, .f32⟩
  | 112 => ⟨S2x64x64x512, .f32⟩
  | 113 => ⟨S2x64x64x256, .f32⟩
  | 114 => ⟨S1x1x256x512, .f32⟩
  | 115 => ⟨S256x512, .f32⟩
  | 116 => ⟨S2x64x64x512, .f32⟩
  | 117 => ⟨S2x64x64x512, .f32⟩
  | 118 => ⟨S2x64x64x256, .f32⟩
  | 119 => ⟨S1x1x256x512, .f32⟩
  | 120 => ⟨S256x512, .f32⟩
  | 121 => ⟨S2x64x64x512, .f32⟩
  | 122 => ⟨S2x64x64x512, .f32⟩
  | 123 => ⟨S2x64x64x256, .f32⟩
  | 124 => ⟨S1x1x256x512, .f32⟩
  | 125 => ⟨S256x512, .f32⟩
  | 126 => ⟨S2x64x64x512, .f32⟩
  | 127 => ⟨S2x64x64x512, .f32⟩
  | _ => ⟨S2x128x128x256, .f32⟩

abbrev hbmTy0_1 (i : Nat) : BufTy := match i % 128 with
  | 0 => ⟨S2x64x64x256, .f32⟩
  | 1 => ⟨S1x1x256x512, .f32⟩
  | 2 => ⟨S256x512, .f32⟩
  | 3 => ⟨S2x64x64x512, .f32⟩
  | 4 => ⟨S2x64x64x512, .f32⟩
  | 5 => ⟨S2x64x64x256, .f32⟩
  | 6 => ⟨S1x1x256x512, .f32⟩
  | 7 => ⟨S256x512, .f32⟩
  | 8 => ⟨S2x64x64x512, .f32⟩
  | 9 => ⟨S2x64x64x512, .f32⟩
  | 10 => ⟨S2x64x64x256, .f32⟩
  | 11 => ⟨S1x1x256x512, .f32⟩
  | 12 => ⟨S256x512, .f32⟩
  | 13 => ⟨S2x64x64x512, .f32⟩
  | 14 => ⟨S2x64x64x512, .f32⟩
  | 15 => ⟨S1x1x1x512, .f32⟩
  | 16 => ⟨S2x64x64x512, .f32⟩
  | 17 => ⟨S2x64x64x512, .f32⟩
  | 18 => ⟨S_, .f32⟩
  | 19 => ⟨S2x64x64x512, .f32⟩
  | 20 => ⟨S2x64x64x512, .f32⟩
  | 21 => ⟨S512x6, .f32⟩
  | 22 => ⟨S2x64x64x6, .f32⟩
  | 23 => ⟨S1x1x1x6, .f32⟩
  | 24 => ⟨S2x64x64x6, .f32⟩
  | 25 => ⟨S2x64x64x6, .f32⟩
  | 26 => ⟨S2x12288x2, .f32⟩
  | 27 => ⟨S_, .f32⟩
  | 28 => ⟨S2x12288, .f32⟩
  | 29 => ⟨S_, .f32⟩
  | 30 => ⟨S2x12288, .f32⟩
  | 31 => ⟨S2x12288, .f32⟩
  | 32 => ⟨S2x12288x1, .f32⟩
  | 33 => ⟨S2x12288x2, .f32⟩
  | 34 => ⟨S2x12288x2, .f32⟩
  | 35 => ⟨S2x12288x2, .f32⟩
  | 36 => ⟨S_, .f32⟩
  | 37 => ⟨S2x12288, .f32⟩
  | 38 => ⟨S2x12288x1, .f32⟩
  | 39 => ⟨S2x12288x2, .f32⟩
  | 40 => ⟨S2x12288x2, .f32⟩
  | 41 => ⟨S512x12, .f32⟩
  | 42 => ⟨S2x64x64x12, .f32⟩
  | 43 => ⟨S1x1x1x12, .f32⟩
  | 44 => ⟨S2x64x64x12, .f32⟩
  | 45 => ⟨S2x64x64x12, .f32⟩
  | 46 => ⟨S2x12288x4, .f32⟩
  | 47 => ⟨S_, .i32⟩
  | 48 => ⟨S_, .f32⟩
  | 49 => ⟨S2x34x34x256, .f32⟩
  | 50 => ⟨S2x32x32x256, .f32⟩
  | 51 => ⟨S1x1x256x512, .f32⟩
  | 52 => ⟨S256x512, .f32⟩
  | 53 => ⟨S2x32x32x512, .f32⟩
  | 54 => ⟨S_, .f32⟩
  | 55 => ⟨S2x32x32x512, .f32⟩
  | 56 => ⟨S2x32x32x512, .f32⟩
  | 57 => ⟨S2x32x32x256, .f32⟩
  | 58 => ⟨S1x1x256x512, .f32⟩
  | 59 => ⟨S256x512, .f32⟩
  | 60 => ⟨S2x32x32x512, .f32⟩
  | 61 => ⟨S2x32x32x512, .f32⟩
  | 62 => ⟨S2x32x32x256, .f32⟩
  | 63 => ⟨S1x1x256x512, .f32⟩
  | 64 => ⟨S256x512, .f32⟩
  | 65 => ⟨S2x32x32x512, .f32⟩
  | 66 => ⟨S2x32x32x512, .f32⟩
  | 67 => ⟨S2x32x32x256, .f32⟩
  | 68 => ⟨S1x1x256x512, .f32⟩
  | 69 => ⟨S256x512, .f32⟩
  | 70 => ⟨S2x32x32x512, .f32⟩
  | 71 => ⟨S2x32x32x512, .f32⟩
  | 72 => ⟨S2x32x32x256, .f32⟩
  | 73 => ⟨S1x1x256x512, .f32⟩
  | 74 => ⟨S256x512, .f32⟩
  | 75 => ⟨S2x32x32x512, .f32⟩
  | 76 => ⟨S2x32x32x512, .f32⟩
  | 77 => ⟨S2x32x32x256, .f32⟩
  | 78 => ⟨S1x1x256x512, .f32⟩
  | 79 => ⟨S256x512, .f32⟩
  | 80 => ⟨S2x32x32x512, .f32⟩
  | 81 => ⟨S2x32x32x512, .f32⟩
  | 82 => ⟨S2x32x32x256, .f32⟩
  | 83 => ⟨S1x1x256x512, .f32⟩
  | 84 => ⟨S256x512, .f32⟩
  | 85 => ⟨S2x32x32x512, .f32⟩
  | 86 => ⟨S2x32x32x512, .f32⟩
  | 87 => ⟨S2x32x32x256, .f32⟩
  | 88 => ⟨S1x1x256x512, .f32⟩
  | 89 => ⟨S256x512, .f32⟩
  | 90 => ⟨S2x32x32x512, .f32⟩
  | 91 => ⟨S2x32x32x512, .f32⟩
  | 92 => ⟨S2x32x32x256, .f32⟩
  | 93 => ⟨S1x1x256x512, .f32⟩
  | 94 => ⟨S256x512, .f32⟩
  | 95 => ⟨S2x32x32x512, .f32⟩
  | 96 => ⟨S2x32x32x512, .f32⟩
  | 97 => ⟨S1x1x1x512, .f32⟩
  | 98 => ⟨S2x32x32x512, .f32⟩
  | 99 => ⟨S2x32x32x512, .f32⟩
  | 100 => ⟨S_, .f32⟩
  | 101 => ⟨S2x32x32x512, .f32⟩
  | 102 => ⟨S2x32x32x512, .f32⟩
  | 103 => ⟨S512x6, .f32⟩
  | 104 => ⟨S2x32x32x6, .f32⟩
  | 105 => ⟨S1x1x1x6, .f32⟩
  | 106 => ⟨S2x32x32x6, .f32⟩
  | 107 => ⟨S2x32x32x6, .f32⟩
  | 108 => ⟨S2x3072x2, .f32⟩
  | 109 => ⟨S_, .f32⟩
  | 110 => ⟨S2x3072, .f32⟩
  | 111 => ⟨S_, .f32⟩
  | 112 => ⟨S2x3072, .f32⟩
  | 113 => ⟨S2x3072, .f32⟩
  | 114 => ⟨S2x3072x1, .f32⟩
  | 115 => ⟨S2x3072x2, .f32⟩
  | 116 => ⟨S2x3072x2, .f32⟩
  | 117 => ⟨S2x3072x2, .f32⟩
  | 118 => ⟨S_, .f32⟩
  | 119 => ⟨S2x3072, .f32⟩
  | 120 => ⟨S2x3072x1, .f32⟩
  | 121 => ⟨S2x3072x2, .f32⟩
  | 122 => ⟨S2x3072x2, .f32⟩
  | 123 => ⟨S512x12, .f32⟩
  | 124 => ⟨S2x32x32x12, .f32⟩
  | 125 => ⟨S1x1x1x12, .f32⟩
  | 126 => ⟨S2x32x32x12, .f32⟩
  | 127 => ⟨S2x32x32x12, .f32⟩
  | _ => ⟨S2x128x128x256, .f32⟩

abbrev hbmTy0_2 (i : Nat) : BufTy := match i % 128 with
  | 0 => ⟨S2x3072x4, .f32⟩
  | 1 => ⟨S_, .i32⟩
  | 2 => ⟨S_, .f32⟩
  | 3 => ⟨S2x18x18x256, .f32⟩
  | 4 => ⟨S2x16x16x256, .f32⟩
  | 5 => ⟨S1x1x256x512, .f32⟩
  | 6 => ⟨S256x512, .f32⟩
  | 7 => ⟨S2x16x16x512, .f32⟩
  | 8 => ⟨S_, .f32⟩
  | 9 => ⟨S2x16x16x512, .f32⟩
  | 10 => ⟨S2x16x16x512, .f32⟩
  | 11 => ⟨S2x16x16x256, .f32⟩
  | 12 => ⟨S1x1x256x512, .f32⟩
  | 13 => ⟨S256x512, .f32⟩
  | 14 => ⟨S2x16x16x512, .f32⟩
  | 15 => ⟨S2x16x16x512, .f32⟩
  | 16 => ⟨S2x16x16x256, .f32⟩
  | 17 => ⟨S1x1x256x512, .f32⟩
  | 18 => ⟨S256x512, .f32⟩
  | 19 => ⟨S2x16x16x512, .f32⟩
  | 20 => ⟨S2x16x16x512, .f32⟩
  | 21 => ⟨S2x16x16x256, .f32⟩
  | 22 => ⟨S1x1x256x512, .f32⟩
  | 23 => ⟨S256x512, .f32⟩
  | 24 => ⟨S2x16x16x512, .f32⟩
  | 25 => ⟨S2x16x16x512, .f32⟩
  | 26 => ⟨S2x16x16x256, .f32⟩
  | 27 => ⟨S1x1x256x512, .f32⟩
  | 28 => ⟨S256x512, .f32⟩
  | 29 => ⟨S2x16x16x512, .f32⟩
  | 30 => ⟨S2x16x16x512, .f32⟩
  | 31 => ⟨S2x16x16x256, .f32⟩
  | 32 => ⟨S1x1x256x512, .f32⟩
  | 33 => ⟨S256x512, .f32⟩
  | 34 => ⟨S2x16x16x512, .f32⟩
  | 35 => ⟨S2x16x16x512, .f32⟩
  | 36 => ⟨S2x16x16x256, .f32⟩
  | 37 => ⟨S1x1x256x512, .f32⟩
  | 38 => ⟨S256x512, .f32⟩
  | 39 => ⟨S2x16x16x512, .f32⟩
  | 40 => ⟨S2x16x16x512, .f32⟩
  | 41 => ⟨S2x16x16x256, .f32⟩
  | 42 => ⟨S1x1x256x512, .f32⟩
  | 43 => ⟨S256x512, .f32⟩
  | 44 => ⟨S2x16x16x512, .f32⟩
  | 45 => ⟨S2x16x16x512, .f32⟩
  | 46 => ⟨S2x16x16x256, .f32⟩
  | 47 => ⟨S1x1x256x512, .f32⟩
  | 48 => ⟨S256x512, .f32⟩
  | 49 => ⟨S2x16x16x512, .f32⟩
  | 50 => ⟨S2x16x16x512, .f32⟩
  | 51 => ⟨S1x1x1x512, .f32⟩
  | 52 => ⟨S2x16x16x512, .f32⟩
  | 53 => ⟨S2x16x16x512, .f32⟩
  | 54 => ⟨S_, .f32⟩
  | 55 => ⟨S2x16x16x512, .f32⟩
  | 56 => ⟨S2x16x16x512, .f32⟩
  | 57 => ⟨S512x6, .f32⟩
  | 58 => ⟨S2x16x16x6, .f32⟩
  | 59 => ⟨S1x1x1x6, .f32⟩
  | 60 => ⟨S2x16x16x6, .f32⟩
  | 61 => ⟨S2x16x16x6, .f32⟩
  | 62 => ⟨S2x768x2, .f32⟩
  | 63 => ⟨S_, .f32⟩
  | 64 => ⟨S2x768, .f32⟩
  | 65 => ⟨S_, .f32⟩
  | 66 => ⟨S2x768, .f32⟩
  | 67 => ⟨S2x768, .f32⟩
  | 68 => ⟨S2x768x1, .f32⟩
  | 69 => ⟨S2x768x2, .f32⟩
  | 70 => ⟨S2x768x2, .f32⟩
  | 71 => ⟨S2x768x2, .f32⟩
  | 72 => ⟨S_, .f32⟩
  | 73 => ⟨S2x768, .f32⟩
  | 74 => ⟨S2x768x1, .f32⟩
  | 75 => ⟨S2x768x2, .f32⟩
  | 76 => ⟨S2x768x2, .f32⟩
  | 77 => ⟨S512x12, .f32⟩
  | 78 => ⟨S2x16x16x12, .f32⟩
  | 79 => ⟨S1x1x1x12, .f32⟩
  | 80 => ⟨S2x16x16x12, .f32⟩
  | 81 => ⟨S2x16x16x12, .f32⟩
  | 82 => ⟨S2x768x4, .f32⟩
  | 83 => ⟨S_, .i32⟩
  | 84 => ⟨S_, .f32⟩
  | 85 => ⟨S2x10x10x256, .f32⟩
  | 86 => ⟨S2x8x8x256, .f32⟩
  | 87 => ⟨S1x1x256x512, .f32⟩
  | 88 => ⟨S256x512, .f32⟩
  | 89 => ⟨S2x8x8x512, .f32⟩
  | 90 => ⟨S_, .f32⟩
  | 91 => ⟨S2x8x8x512, .f32⟩
  | 92 => ⟨S2x8x8x512, .f32⟩
  | 93 => ⟨S2x8x8x256, .f32⟩
  | 94 => ⟨S1x1x256x512, .f32⟩
  | 95 => ⟨S256x512, .f32⟩
  | 96 => ⟨S2x8x8x512, .f32⟩
  | 97 => ⟨S2x8x8x512, .f32⟩
  | 98 => ⟨S2x8x8x256, .f32⟩
  | 99 => ⟨S1x1x256x512, .f32⟩
  | 100 => ⟨S256x512, .f32⟩
  | 101 => ⟨S2x8x8x512, .f32⟩
  | 102 => ⟨S2x8x8x512, .f32⟩
  | 103 => ⟨S2x8x8x256, .f32⟩
  | 104 => ⟨S1x1x256x512, .f32⟩
  | 105 => ⟨S256x512, .f32⟩
  | 106 => ⟨S2x8x8x512, .f32⟩
  | 107 => ⟨S2x8x8x512, .f32⟩
  | 108 => ⟨S2x8x8x256, .f32⟩
  | 109 => ⟨S1x1x256x512, .f32⟩
  | 110 => ⟨S256x512, .f32⟩
  | 111 => ⟨S2x8x8x512, .f32⟩
  | 112 => ⟨S2x8x8x512, .f32⟩
  | 113 => ⟨S2x8x8x256, .f32⟩
  | 114 => ⟨S1x1x256x512, .f32⟩
  | 115 => ⟨S256x512, .f32⟩
  | 116 => ⟨S2x8x8x512, .f32⟩
  | 117 => ⟨S2x8x8x512, .f32⟩
  | 118 => ⟨S2x8x8x256, .f32⟩
  | 119 => ⟨S1x1x256x512, .f32⟩
  | 120 => ⟨S256x512, .f32⟩
  | 121 => ⟨S2x8x8x512, .f32⟩
  | 122 => ⟨S2x8x8x512, .f32⟩
  | 123 => ⟨S2x8x8x256, .f32⟩
  | 124 => ⟨S1x1x256x512, .f32⟩
  | 125 => ⟨S256x512, .f32⟩
  | 126 => ⟨S2x8x8x512, .f32⟩
  | 127 => ⟨S2x8x8x512, .f32⟩
  | _ => ⟨S2x128x128x256, .f32⟩

abbrev hbmTy0_3 (i : Nat) : BufTy := match i % 128 with
  | 0 => ⟨S2x8x8x256, .f32⟩
  | 1 => ⟨S1x1x256x512, .f32⟩
  | 2 => ⟨S256x512, .f32⟩
  | 3 => ⟨S2x8x8x512, .f32⟩
  | 4 => ⟨S2x8x8x512, .f32⟩
  | 5 => ⟨S1x1x1x512, .f32⟩
  | 6 => ⟨S2x8x8x512, .f32⟩
  | 7 => ⟨S2x8x8x512, .f32⟩
  | 8 => ⟨S_, .f32⟩
  | 9 => ⟨S2x8x8x512, .f32⟩
  | 10 => ⟨S2x8x8x512, .f32⟩
  | 11 => ⟨S512x6, .f32⟩
  | 12 => ⟨S2x8x8x6, .f32⟩
  | 13 => ⟨S1x1x1x6, .f32⟩
  | 14 => ⟨S2x8x8x6, .f32⟩
  | 15 => ⟨S2x8x8x6, .f32⟩
  | 16 => ⟨S2x192x2, .f32⟩
  | 17 => ⟨S_, .f32⟩
  | 18 => ⟨S2x192, .f32⟩
  | 19 => ⟨S_, .f32⟩
  | 20 => ⟨S2x192, .f32⟩
  | 21 => ⟨S2x192, .f32⟩
  | 22 => ⟨S2x192x1, .f32⟩
  | 23 => ⟨S2x192x2, .f32⟩
  | 24 => ⟨S2x192x2, .f32⟩
  | 25 => ⟨S2x192x2, .f32⟩
  | 26 => ⟨S_, .f32⟩
  | 27 => ⟨S2x192, .f32⟩
  | 28 => ⟨S2x192x1, .f32⟩
  | 29 => ⟨S2x192x2, .f32⟩
  | 30 => ⟨S2x192x2, .f32⟩
  | 31 => ⟨S512x12, .f32⟩
  | 32 => ⟨S2x8x8x12, .f32⟩
  | 33 => ⟨S1x1x1x12, .f32⟩
  | 34 => ⟨S2x8x8x12, .f32⟩
  | 35 => ⟨S2x8x8x12, .f32⟩
  | 36 => ⟨S2x192x4, .f32⟩
  | 37 => ⟨S2x65472x2, .f32⟩
  | 38 => ⟨S2x65472x2, .f32⟩
  | 39 => ⟨S2x65472x4, .f32⟩
  | _ => ⟨S2x128x128x256, .f32⟩

abbrev hbmTy (i : Nat) : BufTy := match i / 128 with
  | 0 => hbmTy0_0 i
  | 1 => hbmTy0_1 i
  | 2 => hbmTy0_2 i
  | 3 => hbmTy0_3 i
  | _ => ⟨S2x128x128x256, .f32⟩

abbrev bufTy : (tb : Table) → Fin (tcTables nBuf tb) → BufTy
  | .hbm, ⟨i, _⟩ => hbmTy i
  | _, _ => ⟨S2x128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_call1_cst : Ref sig .tc := ⟨.hbm, 64, rfl⟩
abbrev main_call1_v0 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_0 : Ref sig .tc := ⟨.hbm, 73, rfl⟩
abbrev main_v57 : Ref sig .tc := ⟨.hbm, 74, rfl⟩
abbrev main_cst_1 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_2 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_c_3 : Ref sig .tc := ⟨.hbm, 93, rfl⟩
abbrev main_call2_v0 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_4 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_call3_cst : Ref sig .tc := ⟨.hbm, 146, rfl⟩
abbrev main_call3_v0 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_cst_5 : Ref sig .tc := ⟨.hbm, 155, rfl⟩
abbrev main_v131 : Ref sig .tc := ⟨.hbm, 156, rfl⟩
abbrev main_cst_6 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_cst_7 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_c_8 : Ref sig .tc := ⟨.hbm, 175, rfl⟩
abbrev main_call4_v0 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_cst_9 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_call5_cst : Ref sig .tc := ⟨.hbm, 228, rfl⟩
abbrev main_call5_v0 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_cst_10 : Ref sig .tc := ⟨.hbm, 237, rfl⟩
abbrev main_v205 : Ref sig .tc := ⟨.hbm, 238, rfl⟩
abbrev main_cst_11 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_cst_12 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_v220 : Ref sig .tc := ⟨.hbm, 255, rfl⟩
abbrev main_v221 : Ref sig .tc := ⟨.hbm, 256, rfl⟩
abbrev main_c_13 : Ref sig .tc := ⟨.hbm, 257, rfl⟩
abbrev main_call6_v0 : Ref sig .tc := ⟨.hbm, 258, rfl⟩
abbrev main_v222 : Ref sig .tc := ⟨.hbm, 259, rfl⟩
abbrev main_v223 : Ref sig .tc := ⟨.hbm, 260, rfl⟩
abbrev main_v224 : Ref sig .tc := ⟨.hbm, 261, rfl⟩
abbrev main_v225 : Ref sig .tc := ⟨.hbm, 262, rfl⟩
abbrev main_v226 : Ref sig .tc := ⟨.hbm, 263, rfl⟩
abbrev main_cst_14 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_v240 : Ref sig .tc := ⟨.hbm, 278, rfl⟩
abbrev main_v241 : Ref sig .tc := ⟨.hbm, 279, rfl⟩
abbrev main_v242 : Ref sig .tc := ⟨.hbm, 280, rfl⟩
abbrev main_v243 : Ref sig .tc := ⟨.hbm, 281, rfl⟩
abbrev main_v244 : Ref sig .tc := ⟨.hbm, 282, rfl⟩
abbrev main_v245 : Ref sig .tc := ⟨.hbm, 283, rfl⟩
abbrev main_v246 : Ref sig .tc := ⟨.hbm, 284, rfl⟩
abbrev main_v247 : Ref sig .tc := ⟨.hbm, 285, rfl⟩
abbrev main_v248 : Ref sig .tc := ⟨.hbm, 286, rfl⟩
abbrev main_v249 : Ref sig .tc := ⟨.hbm, 287, rfl⟩
abbrev main_v250 : Ref sig .tc := ⟨.hbm, 288, rfl⟩
abbrev main_v251 : Ref sig .tc := ⟨.hbm, 289, rfl⟩
abbrev main_v252 : Ref sig .tc := ⟨.hbm, 290, rfl⟩
abbrev main_v253 : Ref sig .tc := ⟨.hbm, 291, rfl⟩
abbrev main_v254 : Ref sig .tc := ⟨.hbm, 292, rfl⟩
abbrev main_v255 : Ref sig .tc := ⟨.hbm, 293, rfl⟩
abbrev main_v256 : Ref sig .tc := ⟨.hbm, 294, rfl⟩
abbrev main_v257 : Ref sig .tc := ⟨.hbm, 295, rfl⟩
abbrev main_v258 : Ref sig .tc := ⟨.hbm, 296, rfl⟩
abbrev main_v259 : Ref sig .tc := ⟨.hbm, 297, rfl⟩
abbrev main_v260 : Ref sig .tc := ⟨.hbm, 298, rfl⟩
abbrev main_v261 : Ref sig .tc := ⟨.hbm, 299, rfl⟩
abbrev main_v262 : Ref sig .tc := ⟨.hbm, 300, rfl⟩
abbrev main_v263 : Ref sig .tc := ⟨.hbm, 301, rfl⟩
abbrev main_v264 : Ref sig .tc := ⟨.hbm, 302, rfl⟩
abbrev main_v265 : Ref sig .tc := ⟨.hbm, 303, rfl⟩
abbrev main_v266 : Ref sig .tc := ⟨.hbm, 304, rfl⟩
abbrev main_v267 : Ref sig .tc := ⟨.hbm, 305, rfl⟩
abbrev main_v268 : Ref sig .tc := ⟨.hbm, 306, rfl⟩
abbrev main_v269 : Ref sig .tc := ⟨.hbm, 307, rfl⟩
abbrev main_v270 : Ref sig .tc := ⟨.hbm, 308, rfl⟩
abbrev main_v271 : Ref sig .tc := ⟨.hbm, 309, rfl⟩
abbrev main_call7_cst : Ref sig .tc := ⟨.hbm, 310, rfl⟩
abbrev main_call7_v0 : Ref sig .tc := ⟨.hbm, 311, rfl⟩
abbrev main_v272 : Ref sig .tc := ⟨.hbm, 312, rfl⟩
abbrev main_v273 : Ref sig .tc := ⟨.hbm, 313, rfl⟩
abbrev main_v274 : Ref sig .tc := ⟨.hbm, 314, rfl⟩
abbrev main_v275 : Ref sig .tc := ⟨.hbm, 315, rfl⟩
abbrev main_v276 : Ref sig .tc := ⟨.hbm, 316, rfl⟩
abbrev main_v277 : Ref sig .tc := ⟨.hbm, 317, rfl⟩
abbrev main_v278 : Ref sig .tc := ⟨.hbm, 318, rfl⟩
abbrev main_cst_15 : Ref sig .tc := ⟨.hbm, 319, rfl⟩
abbrev main_v279 : Ref sig .tc := ⟨.hbm, 320, rfl⟩
abbrev main_cst_16 : Ref sig .tc := ⟨.hbm, 321, rfl⟩
abbrev main_v280 : Ref sig .tc := ⟨.hbm, 322, rfl⟩
abbrev main_v281 : Ref sig .tc := ⟨.hbm, 323, rfl⟩
abbrev main_v282 : Ref sig .tc := ⟨.hbm, 324, rfl⟩
abbrev main_v283 : Ref sig .tc := ⟨.hbm, 325, rfl⟩
abbrev main_v284 : Ref sig .tc := ⟨.hbm, 326, rfl⟩
abbrev main_v285 : Ref sig .tc := ⟨.hbm, 327, rfl⟩
abbrev main_cst_17 : Ref sig .tc := ⟨.hbm, 328, rfl⟩
abbrev main_v286 : Ref sig .tc := ⟨.hbm, 329, rfl⟩
abbrev main_v287 : Ref sig .tc := ⟨.hbm, 330, rfl⟩
abbrev main_v288 : Ref sig .tc := ⟨.hbm, 331, rfl⟩
abbrev main_v289 : Ref sig .tc := ⟨.hbm, 332, rfl⟩
abbrev main_v290 : Ref sig .tc := ⟨.hbm, 333, rfl⟩
abbrev main_v291 : Ref sig .tc := ⟨.hbm, 334, rfl⟩
abbrev main_v292 : Ref sig .tc := ⟨.hbm, 335, rfl⟩
abbrev main_v293 : Ref sig .tc := ⟨.hbm, 336, rfl⟩
abbrev main_v294 : Ref sig .tc := ⟨.hbm, 337, rfl⟩
abbrev main_v295 : Ref sig .tc := ⟨.hbm, 338, rfl⟩
abbrev main_c_18 : Ref sig .tc := ⟨.hbm, 339, rfl⟩
abbrev main_call8_v0 : Ref sig .tc := ⟨.hbm, 340, rfl⟩
abbrev main_v296 : Ref sig .tc := ⟨.hbm, 341, rfl⟩
abbrev main_v297 : Ref sig .tc := ⟨.hbm, 342, rfl⟩
abbrev main_v298 : Ref sig .tc := ⟨.hbm, 343, rfl⟩
abbrev main_v299 : Ref sig .tc := ⟨.hbm, 344, rfl⟩
abbrev main_v300 : Ref sig .tc := ⟨.hbm, 345, rfl⟩
abbrev main_cst_19 : Ref sig .tc := ⟨.hbm, 346, rfl⟩
abbrev main_v301 : Ref sig .tc := ⟨.hbm, 347, rfl⟩
abbrev main_v302 : Ref sig .tc := ⟨.hbm, 348, rfl⟩
abbrev main_v303 : Ref sig .tc := ⟨.hbm, 349, rfl⟩
abbrev main_v304 : Ref sig .tc := ⟨.hbm, 350, rfl⟩
abbrev main_v305 : Ref sig .tc := ⟨.hbm, 351, rfl⟩
abbrev main_v306 : Ref sig .tc := ⟨.hbm, 352, rfl⟩
abbrev main_v307 : Ref sig .tc := ⟨.hbm, 353, rfl⟩
abbrev main_v308 : Ref sig .tc := ⟨.hbm, 354, rfl⟩
abbrev main_v309 : Ref sig .tc := ⟨.hbm, 355, rfl⟩
abbrev main_v310 : Ref sig .tc := ⟨.hbm, 356, rfl⟩
abbrev main_v311 : Ref sig .tc := ⟨.hbm, 357, rfl⟩
abbrev main_v312 : Ref sig .tc := ⟨.hbm, 358, rfl⟩
abbrev main_v313 : Ref sig .tc := ⟨.hbm, 359, rfl⟩
abbrev main_v314 : Ref sig .tc := ⟨.hbm, 360, rfl⟩
abbrev main_v315 : Ref sig .tc := ⟨.hbm, 361, rfl⟩
abbrev main_v316 : Ref sig .tc := ⟨.hbm, 362, rfl⟩
abbrev main_v317 : Ref sig .tc := ⟨.hbm, 363, rfl⟩
abbrev main_v318 : Ref sig .tc := ⟨.hbm, 364, rfl⟩
abbrev main_v319 : Ref sig .tc := ⟨.hbm, 365, rfl⟩
abbrev main_v320 : Ref sig .tc := ⟨.hbm, 366, rfl⟩
abbrev main_v321 : Ref sig .tc := ⟨.hbm, 367, rfl⟩
abbrev main_v322 : Ref sig .tc := ⟨.hbm, 368, rfl⟩
abbrev main_v323 : Ref sig .tc := ⟨.hbm, 369, rfl⟩
abbrev main_v324 : Ref sig .tc := ⟨.hbm, 370, rfl⟩
abbrev main_v325 : Ref sig .tc := ⟨.hbm, 371, rfl⟩
abbrev main_v326 : Ref sig .tc := ⟨.hbm, 372, rfl⟩
abbrev main_v327 : Ref sig .tc := ⟨.hbm, 373, rfl⟩
abbrev main_v328 : Ref sig .tc := ⟨.hbm, 374, rfl⟩
abbrev main_v329 : Ref sig .tc := ⟨.hbm, 375, rfl⟩
abbrev main_v330 : Ref sig .tc := ⟨.hbm, 376, rfl⟩
abbrev main_v331 : Ref sig .tc := ⟨.hbm, 377, rfl⟩
abbrev main_v332 : Ref sig .tc := ⟨.hbm, 378, rfl⟩
abbrev main_v333 : Ref sig .tc := ⟨.hbm, 379, rfl⟩
abbrev main_v334 : Ref sig .tc := ⟨.hbm, 380, rfl⟩
abbrev main_v335 : Ref sig .tc := ⟨.hbm, 381, rfl⟩
abbrev main_v336 : Ref sig .tc := ⟨.hbm, 382, rfl⟩
abbrev main_v337 : Ref sig .tc := ⟨.hbm, 383, rfl⟩
abbrev main_v338 : Ref sig .tc := ⟨.hbm, 384, rfl⟩
abbrev main_v339 : Ref sig .tc := ⟨.hbm, 385, rfl⟩
abbrev main_v340 : Ref sig .tc := ⟨.hbm, 386, rfl⟩
abbrev main_v341 : Ref sig .tc := ⟨.hbm, 387, rfl⟩
abbrev main_v342 : Ref sig .tc := ⟨.hbm, 388, rfl⟩
abbrev main_v343 : Ref sig .tc := ⟨.hbm, 389, rfl⟩
abbrev main_v344 : Ref sig .tc := ⟨.hbm, 390, rfl⟩
abbrev main_v345 : Ref sig .tc := ⟨.hbm, 391, rfl⟩
abbrev main_call9_cst : Ref sig .tc := ⟨.hbm, 392, rfl⟩
abbrev main_call9_v0 : Ref sig .tc := ⟨.hbm, 393, rfl⟩
abbrev main_v346 : Ref sig .tc := ⟨.hbm, 394, rfl⟩
abbrev main_v347 : Ref sig .tc := ⟨.hbm, 395, rfl⟩
abbrev main_v348 : Ref sig .tc := ⟨.hbm, 396, rfl⟩
abbrev main_v349 : Ref sig .tc := ⟨.hbm, 397, rfl⟩
abbrev main_v350 : Ref sig .tc := ⟨.hbm, 398, rfl⟩
abbrev main_v351 : Ref sig .tc := ⟨.hbm, 399, rfl⟩
abbrev main_v352 : Ref sig .tc := ⟨.hbm, 400, rfl⟩
abbrev main_cst_20 : Ref sig .tc := ⟨.hbm, 401, rfl⟩
abbrev main_v353 : Ref sig .tc := ⟨.hbm, 402, rfl⟩
abbrev main_cst_21 : Ref sig .tc := ⟨.hbm, 403, rfl⟩
abbrev main_v354 : Ref sig .tc := ⟨.hbm, 404, rfl⟩
abbrev main_v355 : Ref sig .tc := ⟨.hbm, 405, rfl⟩
abbrev main_v356 : Ref sig .tc := ⟨.hbm, 406, rfl⟩
abbrev main_v357 : Ref sig .tc := ⟨.hbm, 407, rfl⟩
abbrev main_v358 : Ref sig .tc := ⟨.hbm, 408, rfl⟩
abbrev main_v359 : Ref sig .tc := ⟨.hbm, 409, rfl⟩
abbrev main_cst_22 : Ref sig .tc := ⟨.hbm, 410, rfl⟩
abbrev main_v360 : Ref sig .tc := ⟨.hbm, 411, rfl⟩
abbrev main_v361 : Ref sig .tc := ⟨.hbm, 412, rfl⟩
abbrev main_v362 : Ref sig .tc := ⟨.hbm, 413, rfl⟩
abbrev main_v363 : Ref sig .tc := ⟨.hbm, 414, rfl⟩
abbrev main_v364 : Ref sig .tc := ⟨.hbm, 415, rfl⟩
abbrev main_v365 : Ref sig .tc := ⟨.hbm, 416, rfl⟩
abbrev main_v366 : Ref sig .tc := ⟨.hbm, 417, rfl⟩
abbrev main_v367 : Ref sig .tc := ⟨.hbm, 418, rfl⟩
abbrev main_v368 : Ref sig .tc := ⟨.hbm, 419, rfl⟩
abbrev main_v369 : Ref sig .tc := ⟨.hbm, 420, rfl⟩
abbrev main_v370 : Ref sig .tc := ⟨.hbm, 421, rfl⟩
abbrev main_v371 : Ref sig .tc := ⟨.hbm, 422, rfl⟩
abbrev main_v372 : Ref sig .tc := ⟨.hbm, 423, rfl⟩

abbrev nD : Nat := 1
abbrev τ : Topo := Topo.v7x

variable {F : FTy → Type} [FloatOps F]
-- ==== Proof.Body.Copy.lean ====
/- The kernel as printed and its ideal printing are the same program, because no rule rewrites anything: the same
   buffers, the same pipeline, the same host code and the same body. So what is proved of the one, at any reading of
   the floats, holds of the other. -/
module

public import proofs.«01_k».proof.Kernel
public import proofs.«01_k».proof.KernelIdeal

@[expose] public section

set_option maxRecDepth 65536
set_option maxHeartbeats 16000000

namespace Cert.Hand.Copy

open Idealize.ShloMosaic Idealize.ShloMosaic.TcCoe Idealize.SL.Sem

variable {F : FTy → Type} [FloatOps F] [hK : Cert.Kernel.Facts] [hI : Cert.KernelIdeal.Facts]

/-- The two bodies are one program. -/
theorem body : @Cert.Kernel.cc0__fused_body F _ _ = @Cert.KernelIdeal.cc0__fused_body F _ _ := rfl

/-- The two tables of bodies agree: at the one label there is, by `body`. -/
theorem bodies : Cert.Kernel.defs₀ (F := F) = Cert.KernelIdeal.defs₀ (F := F) := by
  refine congrArg (Defs.onTc (nD := Cert.KernelIdeal.nD) (τ := Cert.KernelIdeal.τ) (sig := Cert.KernelIdeal.sig)
    (Val := Elt F) (Λ := Cert.KernelIdeal.Λ₀)) (funext fun l => ?_)
  match l with
  | ⟨0, _⟩ => exact funext fun | (_, _) => rfl
  | ⟨_ + 1, h⟩ => exact absurd h (Nat.not_lt.2 (Nat.le_add_left _ _))

/-- The two tables with the pipeline's own labels agree. -/
theorem tables : Cert.Kernel.defs (F := F) = Cert.KernelIdeal.defs (F := F) :=
  congrArg (Pipeline.defs (Cert.KernelIdeal.pcfgs (F := F))) bodies

/-- The two host programs are one. -/
theorem host : Cert.Kernel.main (F := F) = Cert.KernelIdeal.main (F := F) := rfl

end Cert.Hand.Copy

end
-- ==== Proof.Body.Taps.lean ====
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- One tap of the shared kernel, as the body loads it. -/
def wtap (x1 : Vec F S3x3x256x512 .bf16) (a b : ℕ) (h : ∀ j, (![a, b, 0, 0] : Fin 4 → ℕ) j + S1x1x256x512.size j ≤ S3x3x256x512.size j) :
    Vec F S1x1x256x512 .bf16 :=
  View.ld x1 (Rect.unit (s := S3x3x256x512) ![a, b, 0, 0] S1x1x256x512.size h)

/-- The rows of the stacked, zero-framed feature maps that the body reads at this point for level 0. -/
def win0 (i : grid0.Coords) (h : k0_cond1 i = 1#1) (x0 : Vec F S1x24384x256 .bf16) : Vec F S1x1360x256 .bf16 :=
  View.ld x0 (Rect.unit (s := S1x24384x256) (k0_off1 i) S1x1360x256.size (k0_off1_inb i h))

/-- The nine taps of the shared convolution on level 0, before bias and relu, as the body adds them up. -/
def acc0 (v : Vec F S1x1360x256 .bf16) (x1 : Vec F S3x3x256x512 .bf16) : FVec F S1024x512 .f32 :=
  k0_pay31 (k0_pay26 v) (k0_pay27 v (wtap x1 0 0 inb_S3x3x256x512_S1x1x256x512_0_0_0_0) (wtap x1 1 0 inb_S3x3x256x512_S1x1x256x512_1_0_0_0) (wtap x1 2 0 inb_S3x3x256x512_S1x1x256x512_2_0_0_0))
    (k0_pay28 v) (k0_pay29 v) (k0_pay30 (wtap x1 0 1 inb_S3x3x256x512_S1x1x256x512_0_1_0_0)) (constant S1024x512 .f32 0x00000000#32)
    (wtap x1 1 1 inb_S3x3x256x512_S1x1x256x512_1_1_0_0) (wtap x1 2 1 inb_S3x3x256x512_S1x1x256x512_2_1_0_0) (wtap x1 0 2 inb_S3x3x256x512_S1x1x256x512_0_2_0_0) (wtap x1 1 2 inb_S3x3x256x512_S1x1x256x512_1_2_0_0) (wtap x1 2 2 inb_S3x3x256x512_S1x1x256x512_2_2_0_0)

/-- The rows of the stacked, zero-framed feature maps that the body reads at this point for level 1. -/
def win1 (i : grid0.Coords) (h : k0_cond2 i = 1#1) (x0 : Vec F S1x24384x256 .bf16) : Vec F S1x1296x256 .bf16 :=
  View.ld x0 (Rect.unit (s := S1x24384x256) (k0_off2 i) S1x1296x256.size (k0_off2_inb i h))

/-- The nine taps of the shared convolution on level 1, before bias and relu, as the body adds them up. -/
def acc1 (v : Vec F S1x1296x256 .bf16) (x1 : Vec F S3x3x256x512 .bf16) : FVec F S1024x512 .f32 :=
  k0_pay37 (k0_pay32 v) (k0_pay33 v (wtap x1 0 0 inb_S3x3x256x512_S1x1x256x512_0_0_0_0) (wtap x1 1 0 inb_S3x3x256x512_S1x1x256x512_1_0_0_0) (wtap x1 2 0 inb_S3x3x256x512_S1x1x256x512_2_0_0_0))
    (k0_pay34 v) (k0_pay35 v) (k0_pay36 (wtap x1 0 1 inb_S3x3x256x512_S1x1x256x512_0_1_0_0)) (constant S1024x512 .f32 0x00000000#32)
    (wtap x1 1 1 inb_S3x3x256x512_S1x1x256x512_1_1_0_0) (wtap x1 2 1 inb_S3x3x256x512_S1x1x256x512_2_1_0_0) (wtap x1 0 2 inb_S3x3x256x512_S1x1x256x512_0_2_0_0) (wtap x1 1 2 inb_S3x3x256x512_S1x1x256x512_1_2_0_0) (wtap x1 2 2 inb_S3x3x256x512_S1x1x256x512_2_2_0_0)

/-- The rows of the stacked, zero-framed feature maps that the body reads at this point for level 2. -/
def win2 (i : grid0.Coords) (h : k0_cond3 i = 1#1) (x0 : Vec F S1x24384x256 .bf16) : Vec F S1x1360x256 .bf16 :=
  View.ld x0 (Rect.unit (s := S1x24384x256) (k0_off3 i) S1x1360x256.size (k0_off3_inb i h))

/-- The nine taps of the shared convolution on level 2, before bias and relu, as the body adds them up. -/
def acc2 (v : Vec F S1x1360x256 .bf16) (x1 : Vec F S3x3x256x512 .bf16) : FVec F S1024x512 .f32 :=
  k0_pay43 (k0_pay38 v) (k0_pay39 v (wtap x1 0 0 inb_S3x3x256x512_S1x1x256x512_0_0_0_0) (wtap x1 1 0 inb_S3x3x256x512_S1x1x256x512_1_0_0_0) (wtap x1 2 0 inb_S3x3x256x512_S1x1x256x512_2_0_0_0))
    (k0_pay40 v) (k0_pay41 v) (k0_pay42 (wtap x1 0 1 inb_S3x3x256x512_S1x1x256x512_0_1_0_0)) (constant S1024x512 .f32 0x00000000#32)
    (wtap x1 1 1 inb_S3x3x256x512_S1x1x256x512_1_1_0_0) (wtap x1 2 1 inb_S3x3x256x512_S1x1x256x512_2_1_0_0) (wtap x1 0 2 inb_S3x3x256x512_S1x1x256x512_0_2_0_0) (wtap x1 1 2 inb_S3x3x256x512_S1x1x256x512_1_2_0_0) (wtap x1 2 2 inb_S3x3x256x512_S1x1x256x512_2_2_0_0)

/-- The rows of the stacked, zero-framed feature maps that the body reads at this point for level 3. -/
def win3 (i : grid0.Coords) (h : k0_cond4 i = 1#1) (x0 : Vec F S1x24384x256 .bf16) : Vec F S1x432x256 .bf16 :=
  View.ld x0 (Rect.unit (s := S1x24384x256) (k0_off4 i) S1x432x256.size (k0_off4_inb i h))

/-- The nine taps of the shared convolution on level 3, before bias and relu, as the body adds them up. -/
def acc3 (v : Vec F S1x432x256 .bf16) (x1 : Vec F S3x3x256x512 .bf16) : FVec F S256x512 .f32 :=
  k0_pay49 (k0_pay44 v) (k0_pay45 v (wtap x1 0 0 inb_S3x3x256x512_S1x1x256x512_0_0_0_0) (wtap x1 1 0 inb_S3x3x256x512_S1x1x256x512_1_0_0_0) (wtap x1 2 0 inb_S3x3x256x512_S1x1x256x512_2_0_0_0))
    (k0_pay46 v) (k0_pay47 v) (k0_pay48 (wtap x1 0 1 inb_S3x3x256x512_S1x1x256x512_0_1_0_0)) (constant S256x512 .f32 0x00000000#32)
    (wtap x1 1 1 inb_S3x3x256x512_S1x1x256x512_1_1_0_0) (wtap x1 2 1 inb_S3x3x256x512_S1x1x256x512_2_1_0_0) (wtap x1 0 2 inb_S3x3x256x512_S1x1x256x512_0_2_0_0) (wtap x1 1 2 inb_S3x3x256x512_S1x1x256x512_1_2_0_0) (wtap x1 2 2 inb_S3x3x256x512_S1x1x256x512_2_2_0_0)

/-- The rows of the stacked, zero-framed feature maps that the body reads at this point for level 4. -/
def win4 (i : grid0.Coords) (h : k0_cond5 i = 1#1) (x0 : Vec F S1x24384x256 .bf16) : Vec F S1x160x256 .bf16 :=
  View.ld x0 (Rect.unit (s := S1x24384x256) (k0_off5 i) S1x160x256.size (k0_off5_inb i h))

/-- The nine taps of the shared convolution on level 4, before bias and relu, as the body adds them up. -/
def acc4 (v : Vec F S1x160x256 .bf16) (x1 : Vec F S3x3x256x512 .bf16) : FVec F S64x512 .f32 :=
  k0_pay55 (k0_pay50 v) (k0_pay51 v (wtap x1 0 0 inb_S3x3x256x512_S1x1x256x512_0_0_0_0) (wtap x1 1 0 inb_S3x3x256x512_S1x1x256x512_1_0_0_0) (wtap x1 2 0 inb_S3x3x256x512_S1x1x256x512_2_0_0_0))
    (k0_pay52 v) (k0_pay53 v) (k0_pay54 (wtap x1 0 1 inb_S3x3x256x512_S1x1x256x512_0_1_0_0)) (constant S64x512 .f32 0x00000000#32)
    (wtap x1 1 1 inb_S3x3x256x512_S1x1x256x512_1_1_0_0) (wtap x1 2 1 inb_S3x3x256x512_S1x1x256x512_2_1_0_0) (wtap x1 0 2 inb_S3x3x256x512_S1x1x256x512_0_2_0_0) (wtap x1 1 2 inb_S3x3x256x512_S1x1x256x512_1_2_0_0) (wtap x1 2 2 inb_S3x3x256x512_S1x1x256x512_2_2_0_0)

end Cert.KernelIdeal.Hand
-- ==== Proof.Body.Runs.lean ====
module

public import proofs.«01_k».proof.Proof.Gen.KernelIdeal.Frame
public import proofs.«01_k».proof.Proof.Gen.KernelIdeal.Skeleton

public import Idealize.ShloMosaic.Lib.VecWindow
public import proofs.«01_k».proof.Proof.Body.Taps

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.View (read_writes_full readAt_full)

variable {F : FTy → Type} [FloatOps F]

local notation "𝕄" => MT nD τ sig Unit (Elt F) ℕ (UR sig nD τ) ℕ

variable (c : Dev nD) (i : grid0.Coords)
    {arg2 : Memref sig .tc .vmem S1x24384x256 .bf16} {harg2 : arg2.IsWhole}
    {arg3 : Memref sig .tc .vmem S3x3x256x512 .bf16} {harg3 : arg3.IsWhole}
    {arg4 : Memref sig .tc .vmem S1x512 .f32} {harg4 : arg4.IsWhole}
    {arg5 : Memref sig .tc .vmem S512x24 .bf16} {harg5 : arg5.IsWhole}
    {arg6 : Memref sig .tc .vmem S1x24 .f32} {harg6 : arg6.IsWhole}
    {arg7 : Memref sig .tc .vmem S1x1024x6 .f32} {harg7 : arg7.IsWhole}
    {arg8 : Memref sig .tc .vmem S1x1024x6 .f32} {harg8 : arg8.IsWhole}
    {arg9 : Memref sig .tc .vmem S1x1024x12 .f32} {harg9 : arg9.IsWhole}
    {arg10 : Memref sig .tc .vmem S1x1024x6 .f32} {harg10 : arg10.IsWhole}
    {arg11 : Memref sig .tc .vmem S1x1024x6 .f32} {harg11 : arg11.IsWhole}
    {arg12 : Memref sig .tc .vmem S1x1024x12 .f32} {harg12 : arg12.IsWhole}
    {arg13 : Memref sig .tc .vmem S1x1024x6 .f32} {harg13 : arg13.IsWhole}
    {arg14 : Memref sig .tc .vmem S1x1024x6 .f32} {harg14 : arg14.IsWhole}
    {arg15 : Memref sig .tc .vmem S1x1024x12 .f32} {harg15 : arg15.IsWhole}
    {arg16 : Memref sig .tc .vmem S1x256x6 .f32} {harg16 : arg16.IsWhole}
    {arg17 : Memref sig .tc .vmem S1x256x6 .f32} {harg17 : arg17.IsWhole}
    {arg18 : Memref sig .tc .vmem S1x256x12 .f32} {harg18 : arg18.IsWhole}
    {arg19 : Memref sig .tc .vmem S1x64x6 .f32} {harg19 : arg19.IsWhole}
    {arg20 : Memref sig .tc .vmem S1x64x6 .f32} {harg20 : arg20.IsWhole}
    {arg21 : Memref sig .tc .vmem S1x64x12 .f32} {harg21 : arg21.IsWhole}
    (x0 : Vec F S1x24384x256 .bf16) (x1 : Vec F S3x3x256x512 .bf16) (x2 : Vec F S1x512 .f32) (x3 : Vec F S512x24 .bf16) (x4 : Vec F S1x24 .f32)

/-- The five input buffers of the body, holding the given contents. -/
def ins (c : Dev nD) (arg2 : Memref sig .tc .vmem S1x24384x256 .bf16) (arg3 : Memref sig .tc .vmem S3x3x256x512 .bf16) (arg4 : Memref sig .tc .vmem S1x512 .f32) (arg5 : Memref sig .tc .vmem S512x24 .bf16) (arg6 : Memref sig .tc .vmem S1x24 .f32)
    (x0 : Vec F S1x24384x256 .bf16) (x1 : Vec F S3x3x256x512 .bf16) (x2 : Vec F S1x512 .f32) (x3 : Vec F S512x24 .bf16) (x4 : Vec F S1x24 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4)

/-- A buffer owned at what is read through it. -/
theorem own {sp : Space} {sh : Shape} {e : EltTy} (b : Memref sig .tc sp sh e) {X : sh.Idx → Elt F e} (f)
    (h : b.view.read (Elt F) f = X) :
    ((b.view.loc (c : Thread nD τ) ↦[b.view.set]{fullShare} f) : sProp 𝕄) ⊢ owns (c : Thread nD τ) b fullShare X := by
  unfold owns
  iintro H
  iexists f
  isplitr
  · ipureintro; exact h
  iexact H

/-- The five input buffers given back as they were. -/
theorem back (f0 f1 f2 f3 f4) :
    (iprop((arg2.view.loc (c : Thread nD τ) ↦[arg2.view.set]{fullShare} f0) ∗ (arg3.view.loc (c : Thread nD τ) ↦[arg3.view.set]{fullShare} f1)
        ∗ (arg4.view.loc (c : Thread nD τ) ↦[arg4.view.set]{fullShare} f2) ∗ (arg5.view.loc (c : Thread nD τ) ↦[arg5.view.set]{fullShare} f3)
        ∗ (arg6.view.loc (c : Thread nD τ) ↦[arg6.view.set]{fullShare} f4)) : sProp 𝕄)
      ⊢ ins c arg2 arg3 arg4 arg5 arg6 (arg2.view.read (Elt F) f0) (arg3.view.read (Elt F) f1) (arg4.view.read (Elt F) f2)
          (arg5.view.read (Elt F) f3) (arg6.view.read (Elt F) f4) := by
  unfold ins
  iintro ⟨H0, H1, H2, H3, H4⟩
  ihave H0 := own c arg2 f0 rfl $$ H0
  ihave H1 := own c arg3 f1 rfl $$ H1
  ihave H2 := own c arg4 f2 rfl $$ H2
  ihave H3 := own c arg5 f3 rfl $$ H3
  ihave H4 := own c arg6 f4 rfl $$ H4
  iframe ∗

/-- An output block after its one store: a payload of the bias, the head and its bias, each loaded whole. -/
theorem stored {s : Shape} {o : Memref sig .tc .vmem s .f32} (p : Vec F S1x512 .f32 → Vec F S512x24 .bf16 → Vec F S1x24 .f32 → Vec F s .f32)
    (f2 f3 f4 g) {o2 o3 o4 o5} (i2 i3 i4 i5) :
    o.view.read (Elt F) (o.view.writes (Elt F) g [⟨Rect.unit o5 s.size i5,
        p (arg4.view.readAt (Elt F) (Rect.unit o2 S1x512.size i2).toLoadRect f2) (arg5.view.readAt (Elt F) (Rect.unit o3 S512x24.size i3).toLoadRect f3)
          (arg6.view.readAt (Elt F) (Rect.unit o4 S1x24.size i4).toLoadRect f4)⟩])
      = p (arg4.view.read (Elt F) f2) (arg5.view.read (Elt F) f3) (arg6.view.read (Elt F) f4) := by
  refine (read_writes_full _ _ _ _ _).trans ?_
  exact congr (congr (congrArg p (readAt_full arg4.view f2 _)) (readAt_full arg5.view f3 _)) (readAt_full arg6.view f4 _)

/-- The body at a point of level 0: it reads its five inputs and leaves them, and fills the three blocks of
    level 0 (logits, probabilities, boxes). It touches no other block. -/
theorem run0 (hc0 : k0_cond1 i = 1#1) (hc1 : ¬ k0_cond2 i = 1#1) (hc2 : ¬ k0_cond3 i = 1#1) (hc3 : ¬ k0_cond4 i = 1#1) (hc4 : ¬ k0_cond5 i = 1#1)
    (E : Set ℕ) (K : PUnit → sProp 𝕄) :
    iprop(ins c arg2 arg3 arg4 arg5 arg6 x0 x1 x2 x3 x4
        ∗ (∃ d, owns (c : Thread nD τ) arg7 fullShare d) ∗ (∃ d, owns (c : Thread nD τ) arg8 fullShare d) ∗ (∃ d, owns (c : Thread nD τ) arg9 fullShare d)
        ∗ (iprop(ins c arg2 arg3 arg4 arg5 arg6 x0 x1 x2 x3 x4
            ∗ owns (c : Thread nD τ) arg7 fullShare (k0_pay3 (acc0 (win0 i hc0 x0) x1) x2 x3 x4) ∗ owns (c : Thread nD τ) arg8 fullShare (k0_pay4 (acc0 (win0 i hc0 x0) x1) x2 x3 x4) ∗ owns (c : Thread nD τ) arg9 fullShare (k0_pay5 (acc0 (win0 i hc0 x0) x1) x2 x3 x4)) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__fused_body_eq_skeleton]; unfold cc0__fused_body_skel
  simp only [k0_part1_eq_skeleton, k0_part2_eq_skeleton]
  unfold ins owns
  iintro ⟨⟨⟨%f0, %hf0, H0⟩, ⟨%f1, %hf1, H1⟩, ⟨%f2, %hf2, H2⟩, ⟨%f3, %hf3, H3⟩, ⟨%f4, %hf4, H4⟩⟩,
    ⟨%d5, %f5, -, H5⟩, ⟨%d6, %f6, -, H6⟩, ⟨%d7, %f7, -, H7⟩, Hk⟩
  subst hf0 hf1 hf2 hf3 hf4
  sl_exec (disch := first | sl_exact hc0 | sl_exact hc1 | sl_exact hc2 | sl_exact hc3 | sl_exact hc4)
  sl_step
  iapply Hk
  isplitl [H0 H1 H2 H3 H4]
  · have h := back (arg2 := arg2) (arg3 := arg3) (arg4 := arg4) (arg5 := arg5) (arg6 := arg6) c f0 f1 f2 f3 f4
    unfold ins owns at h
    iapply h
    iframe ∗
  isplitl [H5]
  · iexists _; isplitr; swap; · iexact H5
    ipureintro; exact stored (k0_pay3 _) f2 f3 f4 f5 _ _ _ _
  isplitl [H6]
  · iexists _; isplitr; swap; · iexact H6
    ipureintro; exact stored (k0_pay4 _) f2 f3 f4 f6 _ _ _ _
  · iexists _; isplitr; swap; · iexact H7
    ipureintro; exact stored (k0_pay5 _) f2 f3 f4 f7 _ _ _ _

/-- The body at a point of level 1: it reads its five inputs and leaves them, and fills the three blocks of
    level 1 (logits, probabilities, boxes). It touches no other block. -/
theorem run1 (hc0 : ¬ k0_cond1 i = 1#1) (hc1 : k0_cond2 i = 1#1) (hc2 : ¬ k0_cond3 i = 1#1) (hc3 : ¬ k0_cond4 i = 1#1) (hc4 : ¬ k0_cond5 i = 1#1)
    (E : Set ℕ) (K : PUnit → sProp 𝕄) :
    iprop(ins c arg2 arg3 arg4 arg5 arg6 x0 x1 x2 x3 x4
        ∗ (∃ d, owns (c : Thread nD τ) arg10 fullShare d) ∗ (∃ d, owns (c : Thread nD τ) arg11 fullShare d) ∗ (∃ d, owns (c : Thread nD τ) arg12 fullShare d)
        ∗ (iprop(ins c arg2 arg3 arg4 arg5 arg6 x0 x1 x2 x3 x4
            ∗ owns (c : Thread nD τ) arg10 fullShare (k0_pay8 (acc1 (win1 i hc1 x0) x1) x2 x3 x4) ∗ owns (c : Thread nD τ) arg11 fullShare (k0_pay9 (acc1 (win1 i hc1 x0) x1) x2 x3 x4) ∗ owns (c : Thread nD τ) arg12 fullShare (k0_pay10 (acc1 (win1 i hc1 x0) x1) x2 x3 x4)) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__fused_body_eq_skeleton]; unfold cc0__fused_body_skel
  simp only [k0_part3_eq_skeleton, k0_part4_eq_skeleton]
  unfold ins owns
  iintro ⟨⟨⟨%f0, %hf0, H0⟩, ⟨%f1, %hf1, H1⟩, ⟨%f2, %hf2, H2⟩, ⟨%f3, %hf3, H3⟩, ⟨%f4, %hf4, H4⟩⟩,
    ⟨%d5, %f5, -, H5⟩, ⟨%d6, %f6, -, H6⟩, ⟨%d7, %f7, -, H7⟩, Hk⟩
  subst hf0 hf1 hf2 hf3 hf4
  sl_exec (disch := first | sl_exact hc0 | sl_exact hc1 | sl_exact hc2 | sl_exact hc3 | sl_exact hc4)
  sl_step
  iapply Hk
  isplitl [H0 H1 H2 H3 H4]
  · have h := back (arg2 := arg2) (arg3 := arg3) (arg4 := arg4) (arg5 := arg5) (arg6 := arg6) c f0 f1 f2 f3 f4
    unfold ins owns at h
    iapply h
    iframe ∗
  isplitl [H5]
  · iexists _; isplitr; swap; · iexact H5
    ipureintro; exact stored (k0_pay8 _) f2 f3 f4 f5 _ _ _ _
  isplitl [H6]
  · iexists _; isplitr; swap; · iexact H6
    ipureintro; exact stored (k0_pay9 _) f2 f3 f4 f6 _ _ _ _
  · iexists _; isplitr; swap; · iexact H7
    ipureintro; exact stored (k0_pay10 _) f2 f3 f4 f7 _ _ _ _

/-- The body at a point of level 2: it reads its five inputs and leaves them, and fills the three blocks of
    level 2 (logits, probabilities, boxes). It touches no other block. -/
theorem run2 (hc0 : ¬ k0_cond1 i = 1#1) (hc1 : ¬ k0_cond2 i = 1#1) (hc2 : k0_cond3 i = 1#1) (hc3 : ¬ k0_cond4 i = 1#1) (hc4 : ¬ k0_cond5 i = 1#1)
    (E : Set ℕ) (K : PUnit → sProp 𝕄) :
    iprop(ins c arg2 arg3 arg4 arg5 arg6 x0 x1 x2 x3 x4
        ∗ (∃ d, owns (c : Thread nD τ) arg13 fullShare d) ∗ (∃ d, owns (c : Thread nD τ) arg14 fullShare d) ∗ (∃ d, owns (c : Thread nD τ) arg15 fullShare d)
        ∗ (iprop(ins c arg2 arg3 arg4 arg5 arg6 x0 x1 x2 x3 x4
            ∗ owns (c : Thread nD τ) arg13 fullShare (k0_pay13 (acc2 (win2 i hc2 x0) x1) x2 x3 x4) ∗ owns (c : Thread nD τ) arg14 fullShare (k0_pay14 (acc2 (win2 i hc2 x0) x1) x2 x3 x4) ∗ owns (c : Thread nD τ) arg15 fullShare (k0_pay15 (acc2 (win2 i hc2 x0) x1) x2 x3 x4)) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__fused_body_eq_skeleton]; unfold cc0__fused_body_skel
  simp only [k0_part5_eq_skeleton, k0_part6_eq_skeleton]
  unfold ins owns
  iintro ⟨⟨⟨%f0, %hf0, H0⟩, ⟨%f1, %hf1, H1⟩, ⟨%f2, %hf2, H2⟩, ⟨%f3, %hf3, H3⟩, ⟨%f4, %hf4, H4⟩⟩,
    ⟨%d5, %f5, -, H5⟩, ⟨%d6, %f6, -, H6⟩, ⟨%d7, %f7, -, H7⟩, Hk⟩
  subst hf0 hf1 hf2 hf3 hf4
  sl_exec (disch := first | sl_exact hc0 | sl_exact hc1 | sl_exact hc2 | sl_exact hc3 | sl_exact hc4)
  sl_step
  iapply Hk
  isplitl [H0 H1 H2 H3 H4]
  · have h := back (arg2 := arg2) (arg3 := arg3) (arg4 := arg4) (arg5 := arg5) (arg6 := arg6) c f0 f1 f2 f3 f4
    unfold ins owns at h
    iapply h
    iframe ∗
  isplitl [H5]
  · iexists _; isplitr; swap; · iexact H5
    ipureintro; exact stored (k0_pay13 _) f2 f3 f4 f5 _ _ _ _
  isplitl [H6]
  · iexists _; isplitr; swap; · iexact H6
    ipureintro; exact stored (k0_pay14 _) f2 f3 f4 f6 _ _ _ _
  · iexists _; isplitr; swap; · iexact H7
    ipureintro; exact stored (k0_pay15 _) f2 f3 f4 f7 _ _ _ _

/-- The body at a point of level 3: it reads its five inputs and leaves them, and fills the three blocks of
    level 3 (logits, probabilities, boxes). It touches no other block. -/
theorem run3 (hc0 : ¬ k0_cond1 i = 1#1) (hc1 : ¬ k0_cond2 i = 1#1) (hc2 : ¬ k0_cond3 i = 1#1) (hc3 : k0_cond4 i = 1#1) (hc4 : ¬ k0_cond5 i = 1#1)
    (E : Set ℕ) (K : PUnit → sProp 𝕄) :
    iprop(ins c arg2 arg3 arg4 arg5 arg6 x0 x1 x2 x3 x4
        ∗ (∃ d, owns (c : Thread nD τ) arg16 fullShare d) ∗ (∃ d, owns (c : Thread nD τ) arg17 fullShare d) ∗ (∃ d, owns (c : Thread nD τ) arg18 fullShare d)
        ∗ (iprop(ins c arg2 arg3 arg4 arg5 arg6 x0 x1 x2 x3 x4
            ∗ owns (c : Thread nD τ) arg16 fullShare (k0_pay18 (acc3 (win3 i hc3 x0) x1) x2 x3 x4) ∗ owns (c : Thread nD τ) arg17 fullShare (k0_pay19 (acc3 (win3 i hc3 x0) x1) x2 x3 x4) ∗ owns (c : Thread nD τ) arg18 fullShare (k0_pay20 (acc3 (win3 i hc3 x0) x1) x2 x3 x4)) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__fused_body_eq_skeleton]; unfold cc0__fused_body_skel
  simp only [k0_part7_eq_skeleton, k0_part8_eq_skeleton]
  unfold ins owns
  iintro ⟨⟨⟨%f0, %hf0, H0⟩, ⟨%f1, %hf1, H1⟩, ⟨%f2, %hf2, H2⟩, ⟨%f3, %hf3, H3⟩, ⟨%f4, %hf4, H4⟩⟩,
    ⟨%d5, %f5, -, H5⟩, ⟨%d6, %f6, -, H6⟩, ⟨%d7, %f7, -, H7⟩, Hk⟩
  subst hf0 hf1 hf2 hf3 hf4
  sl_exec (disch := first | sl_exact hc0 | sl_exact hc1 | sl_exact hc2 | sl_exact hc3 | sl_exact hc4)
  sl_step
  iapply Hk
  isplitl [H0 H1 H2 H3 H4]
  · have h := back (arg2 := arg2) (arg3 := arg3) (arg4 := arg4) (arg5 := arg5) (arg6 := arg6) c f0 f1 f2 f3 f4
    unfold ins owns at h
    iapply h
    iframe ∗
  isplitl [H5]
  · iexists _; isplitr; swap; · iexact H5
    ipureintro; exact stored (k0_pay18 _) f2 f3 f4 f5 _ _ _ _
  isplitl [H6]
  · iexists _; isplitr; swap; · iexact H6
    ipureintro; exact stored (k0_pay19 _) f2 f3 f4 f6 _ _ _ _
  · iexists _; isplitr; swap; · iexact H7
    ipureintro; exact stored (k0_pay20 _) f2 f3 f4 f7 _ _ _ _

/-- The body at a point of level 4: it reads its five inputs and leaves them, and fills the three blocks of
    level 4 (logits, probabilities, boxes). It touches no other block. -/
theorem run4 (hc0 : ¬ k0_cond1 i = 1#1) (hc1 : ¬ k0_cond2 i = 1#1) (hc2 : ¬ k0_cond3 i = 1#1) (hc3 : ¬ k0_cond4 i = 1#1) (hc4 : k0_cond5 i = 1#1)
    (E : Set ℕ) (K : PUnit → sProp 𝕄) :
    iprop(ins c arg2 arg3 arg4 arg5 arg6 x0 x1 x2 x3 x4
        ∗ (∃ d, owns (c : Thread nD τ) arg19 fullShare d) ∗ (∃ d, owns (c : Thread nD τ) arg20 fullShare d) ∗ (∃ d, owns (c : Thread nD τ) arg21 fullShare d)
        ∗ (iprop(ins c arg2 arg3 arg4 arg5 arg6 x0 x1 x2 x3 x4
            ∗ owns (c : Thread nD τ) arg19 fullShare (k0_pay23 (acc4 (win4 i hc4 x0) x1) x2 x3 x4) ∗ owns (c : Thread nD τ) arg20 fullShare (k0_pay24 (acc4 (win4 i hc4 x0) x1) x2 x3 x4) ∗ owns (c : Thread nD τ) arg21 fullShare (k0_pay25 (acc4 (win4 i hc4 x0) x1) x2 x3 x4)) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__fused_body_eq_skeleton]; unfold cc0__fused_body_skel
  simp only [k0_part9_eq_skeleton, k0_part10_eq_skeleton]
  unfold ins owns
  iintro ⟨⟨⟨%f0, %hf0, H0⟩, ⟨%f1, %hf1, H1⟩, ⟨%f2, %hf2, H2⟩, ⟨%f3, %hf3, H3⟩, ⟨%f4, %hf4, H4⟩⟩,
    ⟨%d5, %f5, -, H5⟩, ⟨%d6, %f6, -, H6⟩, ⟨%d7, %f7, -, H7⟩, Hk⟩
  subst hf0 hf1 hf2 hf3 hf4
  sl_exec (disch := first | sl_exact hc0 | sl_exact hc1 | sl_exact hc2 | sl_exact hc3 | sl_exact hc4)
  sl_step
  iapply Hk
  isplitl [H0 H1 H2 H3 H4]
  · have h := back (arg2 := arg2) (arg3 := arg3) (arg4 := arg4) (arg5 := arg5) (arg6 := arg6) c f0 f1 f2 f3 f4
    unfold ins owns at h
    iapply h
    iframe ∗
  isplitl [H5]
  · iexists _; isplitr; swap; · iexact H5
    ipureintro; exact stored (k0_pay23 _) f2 f3 f4 f5 _ _ _ _
  isplitl [H6]
  · iexists _; isplitr; swap; · iexact H6
    ipureintro; exact stored (k0_pay24 _) f2 f3 f4 f6 _ _ _ _
  · iexists _; isplitr; swap; · iexact H7
    ipureintro; exact stored (k0_pay25 _) f2 f3 f4 f7 _ _ _ _

end Cert.KernelIdeal.Hand
-- ==== Proof.Body.Data.lean ====
module

public import proofs.«01_k».proof.Proof.Gen.KernelIdeal.Frame
public import proofs.«01_k».proof.Proof.Body.Runs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points at which each level is computed -/

/-- The point of `t`'s image whose row block is `t`'s, moved into `lo … hi`: where the block that a level's
    buffers hold at `t` was (or will be) computed. -/
def near (lo hi : ℕ) (h : hi < 23) (t : Fin cfg0.N) : Fin cfg0.N :=
  ⟨23 * (t.val / 23) + min (max (t.val % 23) lo) hi, by
    have h1 : t.val < 46 := t.isLt
    show _ < 46
    omega⟩

/-- The row blocks of an image at which level 0 is computed. -/
theorem cond0 : ∀ t : Fin cfg0.N, k0_cond1 (grid0.coords t) = 1#1 ↔ (0 ≤ t.val % 23 ∧ t.val % 23 ≤ 15) :=
  (by decide +kernel : ∀ t : Fin grid0.N, k0_cond1 (grid0.coords t) = 1#1 ↔ (0 ≤ t.val % 23 ∧ t.val % 23 ≤ 15))

/-- The row blocks of an image at which level 1 is computed. -/
theorem cond1 : ∀ t : Fin cfg0.N, k0_cond2 (grid0.coords t) = 1#1 ↔ (16 ≤ t.val % 23 ∧ t.val % 23 ≤ 19) :=
  (by decide +kernel : ∀ t : Fin grid0.N, k0_cond2 (grid0.coords t) = 1#1 ↔ (16 ≤ t.val % 23 ∧ t.val % 23 ≤ 19))

/-- The row blocks of an image at which level 2 is computed. -/
theorem cond2 : ∀ t : Fin cfg0.N, k0_cond3 (grid0.coords t) = 1#1 ↔ (20 ≤ t.val % 23 ∧ t.val % 23 ≤ 20) :=
  (by decide +kernel : ∀ t : Fin grid0.N, k0_cond3 (grid0.coords t) = 1#1 ↔ (20 ≤ t.val % 23 ∧ t.val % 23 ≤ 20))

/-- The row blocks of an image at which level 3 is computed. -/
theorem cond3 : ∀ t : Fin cfg0.N, k0_cond4 (grid0.coords t) = 1#1 ↔ (21 ≤ t.val % 23 ∧ t.val % 23 ≤ 21) :=
  (by decide +kernel : ∀ t : Fin grid0.N, k0_cond4 (grid0.coords t) = 1#1 ↔ (21 ≤ t.val % 23 ∧ t.val % 23 ≤ 21))

/-- The row blocks of an image at which level 4 is computed. -/
theorem cond4 : ∀ t : Fin cfg0.N, k0_cond5 (grid0.coords t) = 1#1 ↔ (22 ≤ t.val % 23 ∧ t.val % 23 ≤ 22) :=
  (by decide +kernel : ∀ t : Fin grid0.N, k0_cond5 (grid0.coords t) = 1#1 ↔ (22 ≤ t.val % 23 ∧ t.val % 23 ≤ 22))

/-- The nearest point of a level is a point of the level. -/
theorem near_mod (lo hi : ℕ) (h : hi < 23) (hl : lo ≤ hi) (t : Fin cfg0.N) :
    lo ≤ (near lo hi h t).val % 23 ∧ (near lo hi h t).val % 23 ≤ hi := by
  show lo ≤ (23 * (t.val / 23) + min (max (t.val % 23) lo) hi) % 23 ∧ (23 * (t.val / 23) + min (max (t.val % 23) lo) hi) % 23 ≤ hi
  omega

/-- A point of the level is its own nearest point. -/
theorem near_self (lo hi : ℕ) (h : hi < 23) (t : Fin cfg0.N) (ht : lo ≤ t.val % 23 ∧ t.val % 23 ≤ hi) : near lo hi h t = t :=
  Fin.ext (by show 23 * (t.val / 23) + min (max (t.val % 23) lo) hi = t.val; omega)

/-- After the level's last point the buffers keep what that point left. -/
theorem near_pred (lo hi : ℕ) (h : hi < 23) (t : Fin cfg0.N) (ht : hi < t.val % 23) (h' : t.val - 1 < cfg0.N) :
    near lo hi h ⟨t.val - 1, h'⟩ = near lo hi h t :=
  Fin.ext (by
    show 23 * ((t.val - 1) / 23) + min (max ((t.val - 1) % 23) lo) hi = 23 * (t.val / 23) + min (max (t.val % 23) lo) hi
    omega)

/-! ## What the blocks hold -/

/-- The points of level 0. -/
abbrev Pt0 := {t : Fin cfg0.N // k0_cond1 (grid0.coords t) = 1#1}
/-- The point of level 0 nearest to `t`. -/
def at0 (t : Fin cfg0.N) : Pt0 := ⟨near 0 15 (by omega) t, (cond0 _).2 (near_mod _ _ _ (by omega) t)⟩
/-- The convolution of level 0 at one of its points. -/
def conv0 (c : Dev nD) (t : Pt0) : FVec F S1024x512 .f32 :=
  acc0 (win0 (grid0.coords t.1) t.2 (iblk m c 0 t.1)) (iblk m c 1 t.1)
/-- The logits of level 0 at one of its points. -/
def logits0 (c : Dev nD) (t : Pt0) : Vec F S1x1024x6 .f32 :=
  k0_pay3 (conv0 m c t) (iblk m c 2 t.1) (iblk m c 3 t.1) (iblk m c 4 t.1)
/-- The probabilities of level 0 at one of its points. -/
def probs0 (c : Dev nD) (t : Pt0) : Vec F S1x1024x6 .f32 :=
  k0_pay4 (conv0 m c t) (iblk m c 2 t.1) (iblk m c 3 t.1) (iblk m c 4 t.1)
/-- The boxes of level 0 at one of its points. -/
def boxes0 (c : Dev nD) (t : Pt0) : Vec F S1x1024x12 .f32 :=
  k0_pay5 (conv0 m c t) (iblk m c 2 t.1) (iblk m c 3 t.1) (iblk m c 4 t.1)

/-- The points of level 1. -/
abbrev Pt1 := {t : Fin cfg0.N // k0_cond2 (grid0.coords t) = 1#1}
/-- The point of level 1 nearest to `t`. -/
def at1 (t : Fin cfg0.N) : Pt1 := ⟨near 16 19 (by omega) t, (cond1 _).2 (near_mod _ _ _ (by omega) t)⟩
/-- The convolution of level 1 at one of its points. -/
def conv1 (c : Dev nD) (t : Pt1) : FVec F S1024x512 .f32 :=
  acc1 (win1 (grid0.coords t.1) t.2 (iblk m c 0 t.1)) (iblk m c 1 t.1)
/-- The logits of level 1 at one of its points. -/
def logits1 (c : Dev nD) (t : Pt1) : Vec F S1x1024x6 .f32 :=
  k0_pay8 (conv1 m c t) (iblk m c 2 t.1) (iblk m c 3 t.1) (iblk m c 4 t.1)
/-- The probabilities of level 1 at one of its points. -/
def probs1 (c : Dev nD) (t : Pt1) : Vec F S1x1024x6 .f32 :=
  k0_pay9 (conv1 m c t) (iblk m c 2 t.1) (iblk m c 3 t.1) (iblk m c 4 t.1)
/-- The boxes of level 1 at one of its points. -/
def boxes1 (c : Dev nD) (t : Pt1) : Vec F S1x1024x12 .f32 :=
  k0_pay10 (conv1 m c t) (iblk m c 2 t.1) (iblk m c 3 t.1) (iblk m c 4 t.1)

/-- The points of level 2. -/
abbrev Pt2 := {t : Fin cfg0.N // k0_cond3 (grid0.coords t) = 1#1}
/-- The point of level 2 nearest to `t`. -/
def at2 (t : Fin cfg0.N) : Pt2 := ⟨near 20 20 (by omega) t, (cond2 _).2 (near_mod _ _ _ (by omega) t)⟩
/-- The convolution of level 2 at one of its points. -/
def conv2 (c : Dev nD) (t : Pt2) : FVec F S1024x512 .f32 :=
  acc2 (win2 (grid0.coords t.1) t.2 (iblk m c 0 t.1)) (iblk m c 1 t.1)
/-- The logits of level 2 at one of its points. -/
def logits2 (c : Dev nD) (t : Pt2) : Vec F S1x1024x6 .f32 :=
  k0_pay13 (conv2 m c t) (iblk m c 2 t.1) (iblk m c 3 t.1) (iblk m c 4 t.1)
/-- The probabilities of level 2 at one of its points. -/
def probs2 (c : Dev nD) (t : Pt2) : Vec F S1x1024x6 .f32 :=
  k0_pay14 (conv2 m c t) (iblk m c 2 t.1) (iblk m c 3 t.1) (iblk m c 4 t.1)
/-- The boxes of level 2 at one of its points. -/
def boxes2 (c : Dev nD) (t : Pt2) : Vec F S1x1024x12 .f32 :=
  k0_pay15 (conv2 m c t) (iblk m c 2 t.1) (iblk m c 3 t.1) (iblk m c 4 t.1)

/-- The points of level 3. -/
abbrev Pt3 := {t : Fin cfg0.N // k0_cond4 (grid0.coords t) = 1#1}
/-- The point of level 3 nearest to `t`. -/
def at3 (t : Fin cfg0.N) : Pt3 := ⟨near 21 21 (by omega) t, (cond3 _).2 (near_mod _ _ _ (by omega) t)⟩
/-- The convolution of level 3 at one of its points. -/
def conv3 (c : Dev nD) (t : Pt3) : FVec F S256x512 .f32 :=
  acc3 (win3 (grid0.coords t.1) t.2 (iblk m c 0 t.1)) (iblk m c 1 t.1)
/-- The logits of level 3 at one of its points. -/
def logits3 (c : Dev nD) (t : Pt3) : Vec F S1x256x6 .f32 :=
  k0_pay18 (conv3 m c t) (iblk m c 2 t.1) (iblk m c 3 t.1) (iblk m c 4 t.1)
/-- The probabilities of level 3 at one of its points. -/
def probs3 (c : Dev nD) (t : Pt3) : Vec F S1x256x6 .f32 :=
  k0_pay19 (conv3 m c t) (iblk m c 2 t.1) (iblk m c 3 t.1) (iblk m c 4 t.1)
/-- The boxes of level 3 at one of its points. -/
def boxes3 (c : Dev nD) (t : Pt3) : Vec F S1x256x12 .f32 :=
  k0_pay20 (conv3 m c t) (iblk m c 2 t.1) (iblk m c 3 t.1) (iblk m c 4 t.1)

/-- The points of level 4. -/
abbrev Pt4 := {t : Fin cfg0.N // k0_cond5 (grid0.coords t) = 1#1}
/-- The point of level 4 nearest to `t`. -/
def at4 (t : Fin cfg0.N) : Pt4 := ⟨near 22 22 (by omega) t, (cond4 _).2 (near_mod _ _ _ (by omega) t)⟩
/-- The convolution of level 4 at one of its points. -/
def conv4 (c : Dev nD) (t : Pt4) : FVec F S64x512 .f32 :=
  acc4 (win4 (grid0.coords t.1) t.2 (iblk m c 0 t.1)) (iblk m c 1 t.1)
/-- The logits of level 4 at one of its points. -/
def logits4 (c : Dev nD) (t : Pt4) : Vec F S1x64x6 .f32 :=
  k0_pay23 (conv4 m c t) (iblk m c 2 t.1) (iblk m c 3 t.1) (iblk m c 4 t.1)
/-- The probabilities of level 4 at one of its points. -/
def probs4 (c : Dev nD) (t : Pt4) : Vec F S1x64x6 .f32 :=
  k0_pay24 (conv4 m c t) (iblk m c 2 t.1) (iblk m c 3 t.1) (iblk m c 4 t.1)
/-- The boxes of level 4 at one of its points. -/
def boxes4 (c : Dev nD) (t : Pt4) : Vec F S1x64x12 .f32 :=
  k0_pay25 (conv4 m c t) (iblk m c 2 t.1) (iblk m c 3 t.1) (iblk m c 4 t.1)

/-- The pipeline's data: the inputs' blocks stay, and an output's buffer holds the block of the nearest point of its level. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => logits0 m c (at0 t)
    | ⟨6, _⟩ => probs0 m c (at0 t)
    | ⟨7, _⟩ => boxes0 m c (at0 t)
    | ⟨8, _⟩ => logits1 m c (at1 t)
    | ⟨9, _⟩ => probs1 m c (at1 t)
    | ⟨10, _⟩ => boxes1 m c (at1 t)
    | ⟨11, _⟩ => logits2 m c (at2 t)
    | ⟨12, _⟩ => probs2 m c (at2 t)
    | ⟨13, _⟩ => boxes2 m c (at2 t)
    | ⟨14, _⟩ => logits3 m c (at3 t)
    | ⟨15, _⟩ => probs3 m c (at3 t)
    | ⟨16, _⟩ => boxes3 m c (at3 t)
    | ⟨17, _⟩ => logits4 m c (at4 t)
    | ⟨18, _⟩ => probs4 m c (at4 t)
    | ⟨19, _⟩ => boxes4 m c (at4 t)
    | ⟨_ + 20, h⟩ => absurd h (Nat.not_lt.2 (Nat.le_add_left _ _))
  Φ _ := Pipeline.ΦA spec0 c
  q _ := fullShare
  owed _ := 0

/-- A window's array starts as the host code leaves it. -/
theorem A_eq (c : Dev nD) (w : Fin cfg0.W) : (dats m 0 c).A w = V m c (Pipeline.arrRef spec0 w) := by
  dsimp only [dats]

/-- After a point, input 0 holds its block. -/
theorem after0_0 (c : Dev nD) (t : Fin cfg0.N) : (dats m 0 c).after 0 t = iblk m c 0 t := by dsimp only [dats]
/-- After a point, input 1 holds its block. -/
theorem after0_1 (c : Dev nD) (t : Fin cfg0.N) : (dats m 0 c).after 1 t = iblk m c 1 t := by dsimp only [dats]
/-- After a point, input 2 holds its block. -/
theorem after0_2 (c : Dev nD) (t : Fin cfg0.N) : (dats m 0 c).after 2 t = iblk m c 2 t := by dsimp only [dats]
/-- After a point, input 3 holds its block. -/
theorem after0_3 (c : Dev nD) (t : Fin cfg0.N) : (dats m 0 c).after 3 t = iblk m c 3 t := by dsimp only [dats]
/-- After a point, input 4 holds its block. -/
theorem after0_4 (c : Dev nD) (t : Fin cfg0.N) : (dats m 0 c).after 4 t = iblk m c 4 t := by dsimp only [dats]
/-- After a point, output 5 holds level 0's logits of the nearest point. -/
theorem after0_5 (c : Dev nD) (t : Fin cfg0.N) : (dats m 0 c).after 5 t = logits0 m c (at0 t) := by dsimp only [dats]
/-- After a point, output 6 holds level 0's probabilities of the nearest point. -/
theorem after0_6 (c : Dev nD) (t : Fin cfg0.N) : (dats m 0 c).after 6 t = probs0 m c (at0 t) := by dsimp only [dats]
/-- After a point, output 7 holds level 0's boxes of the nearest point. -/
theorem after0_7 (c : Dev nD) (t : Fin cfg0.N) : (dats m 0 c).after 7 t = boxes0 m c (at0 t) := by dsimp only [dats]
/-- After a point, output 8 holds level 1's logits of the nearest point. -/
theorem after0_8 (c : Dev nD) (t : Fin cfg0.N) : (dats m 0 c).after 8 t = logits1 m c (at1 t) := by dsimp only [dats]
/-- After a point, output 9 holds level 1's probabilities of the nearest point. -/
theorem after0_9 (c : Dev nD) (t : Fin cfg0.N) : (dats m 0 c).after 9 t = probs1 m c (at1 t) := by dsimp only [dats]
/-- After a point, output 10 holds level 1's boxes of the nearest point. -/
theorem after0_10 (c : Dev nD) (t : Fin cfg0.N) : (dats m 0 c).after 10 t = boxes1 m c (at1 t) := by dsimp only [dats]
/-- After a point, output 11 holds level 2's logits of the nearest point. -/
theorem after0_11 (c : Dev nD) (t : Fin cfg0.N) : (dats m 0 c).after 11 t = logits2 m c (at2 t) := by dsimp only [dats]
/-- After a point, output 12 holds level 2's probabilities of the nearest point. -/
theorem after0_12 (c : Dev nD) (t : Fin cfg0.N) : (dats m 0 c).after 12 t = probs2 m c (at2 t) := by dsimp only [dats]
/-- After a point, output 13 holds level 2's boxes of the nearest point. -/
theorem after0_13 (c : Dev nD) (t : Fin cfg0.N) : (dats m 0 c).after 13 t = boxes2 m c (at2 t) := by dsimp only [dats]
/-- After a point, output 14 holds level 3's logits of the nearest point. -/
theorem after0_14 (c : Dev nD) (t : Fin cfg0.N) : (dats m 0 c).after 14 t = logits3 m c (at3 t) := by dsimp only [dats]
/-- After a point, output 15 holds level 3's probabilities of the nearest point. -/
theorem after0_15 (c : Dev nD) (t : Fin cfg0.N) : (dats m 0 c).after 15 t = probs3 m c (at3 t) := by dsimp only [dats]
/-- After a point, output 16 holds level 3's boxes of the nearest point. -/
theorem after0_16 (c : Dev nD) (t : Fin cfg0.N) : (dats m 0 c).after 16 t = boxes3 m c (at3 t) := by dsimp only [dats]
/-- After a point, output 17 holds level 4's logits of the nearest point. -/
theorem after0_17 (c : Dev nD) (t : Fin cfg0.N) : (dats m 0 c).after 17 t = logits4 m c (at4 t) := by dsimp only [dats]
/-- After a point, output 18 holds level 4's probabilities of the nearest point. -/
theorem after0_18 (c : Dev nD) (t : Fin cfg0.N) : (dats m 0 c).after 18 t = probs4 m c (at4 t) := by dsimp only [dats]
/-- After a point, output 19 holds level 4's boxes of the nearest point. -/
theorem after0_19 (c : Dev nD) (t : Fin cfg0.N) : (dats m 0 c).after 19 t = boxes4 m c (at4 t) := by dsimp only [dats]
/-- Before a point, input 0 holds its block. -/
theorem before0_0 (c : Dev nD) (t : Fin cfg0.N) (d) : (dats m 0 c).before 0 t d = iblk m c 0 t :=
  before0_0_of m (dats m 0 c) (A_eq m c 0) (after0_0 m c) t d
/-- Before a point, input 1 holds its block. -/
theorem before0_1 (c : Dev nD) (t : Fin cfg0.N) (d) : (dats m 0 c).before 1 t d = iblk m c 1 t :=
  before0_1_of m (dats m 0 c) (A_eq m c 1) (after0_1 m c) t d
/-- Before a point, input 2 holds its block. -/
theorem before0_2 (c : Dev nD) (t : Fin cfg0.N) (d) : (dats m 0 c).before 2 t d = iblk m c 2 t :=
  before0_2_of m (dats m 0 c) (A_eq m c 2) (after0_2 m c) t d
/-- Before a point, input 3 holds its block. -/
theorem before0_3 (c : Dev nD) (t : Fin cfg0.N) (d) : (dats m 0 c).before 3 t d = iblk m c 3 t :=
  before0_3_of m (dats m 0 c) (A_eq m c 3) (after0_3 m c) t d
/-- Before a point, input 4 holds its block. -/
theorem before0_4 (c : Dev nD) (t : Fin cfg0.N) (d) : (dats m 0 c).before 4 t d = iblk m c 4 t :=
  before0_4_of m (dats m 0 c) (A_eq m c 4) (after0_4 m c) t d

end Cert.KernelIdeal.Hand
-- ==== Proof.Body.Sound.lean ====
module

public import Idealize.ShloMosaic.Lib.Pipeline.TableIdle
public import proofs.«01_k».proof.Proof.Gen.KernelIdeal.Frame
public import proofs.«01_k».proof.Proof.Body.Data
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule of the output windows -/

/-- The first row block of the level that window `w` belongs to. -/
def lo (w : Fin 20) : ℕ := ![0, 0, 0, 0, 0, 0, 0, 0, 16, 16, 16, 20, 20, 20, 21, 21, 21, 22, 22, 22] w
/-- The last one. -/
def hi (w : Fin 20) : ℕ := ![0, 0, 0, 0, 0, 15, 15, 15, 19, 19, 19, 20, 20, 20, 21, 21, 21, 22, 22, 22] w

/-- The last row block of a level is one of the 23. -/
theorem hi_lt : ∀ w : Fin 20, hi w < 23 := by decide
/-- A level's first row block comes no later than its last. -/
theorem lo_le : ∀ w : Fin 20, lo w ≤ hi w := by decide

/-- An output is written back after each point of its level but the last, and at the image's last point. -/
theorem flush_iff : ∀ (w : Fin 20) (_ : 5 ≤ w.val) (t : Fin cfg0.N),
    (cfg0.win w).flush t = true ↔ (lo w ≤ t.val % 23 ∧ t.val % 23 < hi w) ∨ t.val % 23 = 22 :=
  (by decide +kernel : ∀ (w : Fin 20) (_ : 5 ≤ w.val) (t : Fin grid0.N),
    (cfg0.win w).flush t = true ↔ (lo w ≤ t.val % 23 ∧ t.val % 23 < hi w) ∨ t.val % 23 = 22)

/-- An output is idle off the points of its level. -/
theorem idle_iff : ∀ (w : Fin 20) (_ : 5 ≤ w.val) (t : Fin cfg0.N),
    cfg0.idle w (cfg0.grid.coords t) = true ↔ ¬ (lo w ≤ t.val % 23 ∧ t.val % 23 ≤ hi w) :=
  (by decide +kernel : ∀ (w : Fin 20) (_ : 5 ≤ w.val) (t : Fin grid0.N),
    cfg0.idle w (grid0.coords t) = true ↔ ¬ (lo w ≤ t.val % 23 ∧ t.val % 23 ≤ hi w))

/-- The windows numbered 5 and up are outputs. -/
theorem out_of : ∀ (w : Fin 20) (_ : 5 ≤ w.val), (cfg0.win w).isOut = true := by decide

/-- No window is cut short at the edge of its array. -/
theorem clip_none (w : Fin 20) (i : cfg0.grid.Coords) (a) : (cfg0.win w).clip i a = none := by
  fin_cases w <;> rfl

/-- What an output's buffer holds depends on the nearest point of its level alone. -/
theorem after_near (c : Dev nD) (w : Fin 20) (hw : 5 ≤ w.val) (t t' : Fin cfg0.N)
    (h : near (lo w) (hi w) (hi_lt w) t = near (lo w) (hi w) (hi_lt w) t') : (dats m 0 c).after w t = (dats m 0 c).after w t' := by
  fin_cases w <;> first | exact absurd hw (by decide) | (dsimp only [dats]; congr 1; exact Subtype.ext h)

/-! ## A block the point does not touch -/

/-- A window's buffer is fresh until the level's last point, and from the next image on again. -/
theorem fresh_iff (w : Fin 20) (hw : 5 ≤ w.val) : ∀ n : ℕ, n ≤ cfg0.N → (cfg0.fresh w n = true ↔ n % 23 ≤ hi w)
  | 0, _ => by rw [Pipeline.Cfg.fresh_zero]; simp
  | n + 1, hn => by
    have h1 := hi_lt w
    have h2 := lo_le w
    rw [Pipeline.Cfg.fresh_succ cfg0 w n hn, Bool.or_eq_true, Bool.and_eq_true, flush_iff w hw, idle_iff w hw,
      fresh_iff w hw n (Nat.le_of_succ_le hn)]
    show ((lo w ≤ n % 23 ∧ n % 23 < hi w) ∨ n % 23 = 22) ∨ ¬ (lo w ≤ n % 23 ∧ n % 23 ≤ hi w) ∧ n % 23 ≤ hi w ↔ (n + 1) % 23 ≤ hi w
    omega

/-- A window's buffer before the body. -/
abbrev bef (c : Dev nD) (w : Fin cfg0.W) (t : Fin cfg0.N) : sProp 𝕄 :=
  iprop(∃ d, owns (c : Thread nD τ) ((cfg0.win w).stage (cfg0.slots t w)) fullShare ((dats m 0 c).before w t d))
/-- A window's buffer after it. -/
abbrev aft (c : Dev nD) (w : Fin cfg0.W) (t : Fin cfg0.N) : sProp 𝕄 := (dats m 0 c).leavesExact w t

/-- An output idle at a point is left as the pipeline expects. -/
theorem keep (c : Dev nD) (w : Fin 20) (hw : 5 ≤ w.val) (t : Fin cfg0.N) (ht : ¬ (lo w ≤ t.val % 23 ∧ t.val % 23 ≤ hi w)) :
    bef m c w t ⊢ aft m c w t := by
  have hi' := (idle_iff w hw t).2 ht
  cases hf : (cfg0.win w).flush t
  · unfold aft; rw [(dats m 0 c).leavesExact_idle w t hi' hf]
  · have hle := lo_le w
    have hlt := hi_lt w
    have h22 : hi w < t.val % 23 := by
      rcases (flush_iff w hw t).1 hf with h | h <;> omega
    have hcarry : ∀ (s : Fin cfg0.N) (_ : s.val ≠ 0), cfg0.idle w (cfg0.grid.coords s) = true → cfg0.fresh w s.val = false →
        (dats m 0 c).after w s = (dats m 0 c).after w ⟨s.val - 1, by omega⟩ := fun s _ _ hfr => by
      have : ¬ s.val % 23 ≤ hi w := fun h => by
        rw [(fresh_iff w hw s.val s.isLt.le).2 h] at hfr; cases hfr
      exact after_near m c w hw _ _ (near_pred (lo w) (hi w) (hi_lt w) s (by omega) _).symm
    have hb : ∀ d, (dats m 0 c).before w t d = (dats m 0 c).after w t := fun d => by
      rw [(dats m 0 c).before_out_traj w (out_of w hw) (clip_none w) hcarry t.val t rfl d, if_neg,
        after_near m c w hw _ t (near_pred (lo w) (hi w) (hi_lt w) t h22 _)]
      rw [fresh_iff w hw t.val t.isLt.le]; omega
    unfold bef aft Dat.leavesExact
    rw [hi', hf]
    iintro ⟨%d, H⟩
    rw [hb]
    iexact H

/-! ## The windows of a point -/

/-- The five inputs at once. -/
def five {M : Type} [URA M] (Φ : Fin 20 → sProp M) : sProp M := iprop(Φ 0 ∗ Φ 1 ∗ Φ 2 ∗ Φ 3 ∗ Φ 4)

/-- The outputs but three. -/
def others (a b d : Fin 20) : Finset (Fin 20) := Finset.univ.filter fun v => 5 ≤ v.val ∧ v ≠ a ∧ v ≠ b ∧ v ≠ d

/-- The windows grouped: the inputs, three outputs, the other outputs. -/
theorem group {M : Type} [URA M] (Φ : Fin 20 → sProp M) {a b d : Fin 20} (ha : 5 ≤ a.val) (hb : a.val < b.val) (hd : b.val < d.val) :
    bigSep Finset.univ Φ = iprop(five Φ ∗ (Φ a ∗ Φ b ∗ Φ d) ∗ bigSep (others a b d) Φ) := by
  have h : (Finset.univ : Finset (Fin 20)) = {0, 1, 2, 3, 4} ∪ ({a, b, d} ∪ others a b d) := by
    ext v
    simp only [others, Finset.mem_univ, Finset.mem_union, Finset.mem_insert, Finset.mem_singleton, Finset.mem_filter, Fin.ext_iff, ne_eq,
      true_and, true_iff]
    show (v.val = 0 ∨ v.val = 1 ∨ v.val = 2 ∨ v.val = 3 ∨ v.val = 4) ∨ _
    omega
  have h₁ : Disjoint ({0, 1, 2, 3, 4} : Finset (Fin 20)) ({a, b, d} ∪ others a b d) := by
    refine Finset.disjoint_left.2 fun v hv h => ?_
    simp only [others, Finset.mem_univ, Finset.mem_union, Finset.mem_insert, Finset.mem_singleton, Finset.mem_filter, Fin.ext_iff] at hv h
    change v.val = 0 ∨ v.val = 1 ∨ v.val = 2 ∨ v.val = 3 ∨ v.val = 4 at hv
    omega
  have h₂ : Disjoint ({a, b, d} : Finset (Fin 20)) (others a b d) := by
    refine Finset.disjoint_left.2 fun v hv h => ?_
    simp only [others, Finset.mem_insert, Finset.mem_singleton, Finset.mem_filter] at hv h
    tauto
  rw [h, bigSep_union h₁, bigSep_union h₂, bigSep_insert (by decide), bigSep_insert (by decide), bigSep_insert (by decide),
    bigSep_insert (by decide), bigSep_singleton,
    bigSep_insert (by simp only [Finset.mem_insert, Finset.mem_singleton, Fin.ext_iff]; omega),
    bigSep_insert (by simp only [Finset.mem_singleton, Fin.ext_iff]; omega), bigSep_singleton]
  rfl

/-- The inputs' buffers at a point. -/
abbrev insAt (c : Dev nD) (t : Fin cfg0.N) : sProp 𝕄 :=
  ins c ((cfg0.win 0).stage (cfg0.slots t 0)) ((cfg0.win 1).stage (cfg0.slots t 1)) ((cfg0.win 2).stage (cfg0.slots t 2))
    ((cfg0.win 3).stage (cfg0.slots t 3)) ((cfg0.win 4).stage (cfg0.slots t 4))
    (iblk m c 0 t) (iblk m c 1 t) (iblk m c 2 t) (iblk m c 3 t) (iblk m c 4 t)

/-- Before the body, the five inputs hold their blocks. -/
theorem ins_open (c : Dev nD) (t : Fin cfg0.N) : five (fun w => bef m c w t) ⊢ insAt m c t := by
  unfold five insAt ins bef
  simp only [before0_0, before0_1, before0_2, before0_3, before0_4]
  iintro ⟨⟨%d0, H0⟩, ⟨%d1, H1⟩, ⟨%d2, H2⟩, ⟨%d3, H3⟩, ⟨%d4, H4⟩⟩
  iframe ∗

/-- An input is left as it was. -/
theorem aft_in (c : Dev nD) (w : Fin 20) (hw : w.val < 5) (t : Fin cfg0.N) :
    aft m c w t = owns (c : Thread nD τ) ((cfg0.win w).stage (cfg0.slots t w)) fullShare ((dats m 0 c).after w t) := by
  fin_cases w <;> first | exact absurd hw (by decide) | rfl

/-- After the body, the five inputs are as they are meant to be. -/
theorem ins_close (c : Dev nD) (t : Fin cfg0.N) : insAt m c t ⊢ five (fun w => aft m c w t) := by
  unfold five insAt ins
  simp only [aft_in m c 0 (by decide), aft_in m c 1 (by decide), aft_in m c 2 (by decide), aft_in m c 3 (by decide),
    aft_in m c 4 (by decide), after0_0, after0_1, after0_2, after0_3, after0_4]
  exact .rfl

/-- A live output is left at what the data say. -/
theorem aft_live (c : Dev nD) (w : Fin cfg0.W) (t : Fin cfg0.N) (h : cfg0.idle w (cfg0.grid.coords t) = false) :
    aft m c w t = owns (c : Thread nD τ) ((cfg0.win w).stage (cfg0.slots t w)) fullShare ((dats m 0 c).after w t) := by
  unfold aft Dat.leavesExact; rw [h]

/-- Before the body, an output's buffer holds something. -/
theorem bef_any (c : Dev nD) (w : Fin cfg0.W) (t : Fin cfg0.N) :
    bef m c w t ⊢ iprop(∃ d, owns (c : Thread nD τ) ((cfg0.win w).stage (cfg0.slots t w)) fullShare d) := by
  iintro ⟨%d, H⟩
  iexists _
  iexact H

/-- The pipeline's goal for the body at a point: from the buffers as they stand before it to the buffers after it. -/
abbrev Sound (c : Dev nD) (t : Fin cfg0.N) : Prop :=
    (iprop((dats m 0 c).Φ t.castSucc ∗ (dats m 0 c).owesAt () t.castSucc ∗ bigSep Finset.univ fun w => bef m c w t) : sProp 𝕄)
      ⊢ wp frame (wpE (defs₀ (F := F)) Variants.none c none) Set.univ (bodyAt0 t) fun _ =>
        iprop((dats m 0 c).Φ t.succ ∗ (dats m 0 c).owesAt () t.succ ∗ bigSep Finset.univ fun w => aft m c w t)

/-- The body at a point of one level, over the pipeline's buffers: given its run over the inputs' buffers and the level's
    three windows `a`, `b`, `d`, the inputs and the other levels' buffers are left as the pipeline expects. -/
theorem step (c : Dev nD) (t : Fin cfg0.N) (a b d : Fin 20) (ha : 5 ≤ a.val) (hb : a.val < b.val) (hd : b.val < d.val)
    (hset : ∀ v : Fin 20, 5 ≤ v.val →
      if v = a ∨ v = b ∨ v = d then lo v = lo a ∧ hi v = hi a else hi v < lo a ∨ hi a < lo v)
    (ht : lo a ≤ t.val % 23 ∧ t.val % 23 ≤ hi a)
    (hrun : ∀ K : PUnit → sProp 𝕄,
      iprop(insAt m c t
        ∗ (∃ x, owns (c : Thread nD τ) ((cfg0.win a).stage (cfg0.slots t a)) fullShare x)
        ∗ (∃ x, owns (c : Thread nD τ) ((cfg0.win b).stage (cfg0.slots t b)) fullShare x)
        ∗ (∃ x, owns (c : Thread nD τ) ((cfg0.win d).stage (cfg0.slots t d)) fullShare x)
        ∗ (iprop(insAt m c t
          ∗ owns (c : Thread nD τ) ((cfg0.win a).stage (cfg0.slots t a)) fullShare ((dats m 0 c).after a t)
          ∗ owns (c : Thread nD τ) ((cfg0.win b).stage (cfg0.slots t b)) fullShare ((dats m 0 c).after b t)
          ∗ owns (c : Thread nD τ) ((cfg0.win d).stage (cfg0.slots t d)) fullShare ((dats m 0 c).after d t)) -∗ K ⟨⟩))
      ⊢ wp frame (wpE (defs₀ (F := F)) Variants.none c none) Set.univ (bodyAt0 t) K) : Sound m c t := by
  have live : ∀ v : Fin 20, 5 ≤ v.val → (v = a ∨ v = b ∨ v = d) → cfg0.idle v (cfg0.grid.coords t) = false := fun v hv h => by
    have := hset v hv
    rw [if_pos h] at this
    rw [← Bool.not_eq_true, idle_iff v hv, this.1, this.2]
    exact not_not.2 ht
  have rest : bigSep (others a b d) (fun v => bef m c v t) ⊢ bigSep (others a b d) (fun v => aft m c v t) :=
    bigSep_mono fun v hv => by
      obtain ⟨-, hv, h⟩ := Finset.mem_filter.1 hv
      have := hset v hv
      rw [if_neg (by tauto)] at this
      exact keep m c v hv t (by omega)
  unfold Sound
  rw [show (dats m 0 c).Φ t.succ = (dats m 0 c).Φ t.castSucc from rfl,
    show (dats m 0 c).owesAt () t.succ = (dats m 0 c).owesAt () t.castSucc from rfl]
  rw [group (fun w => bef m c w t) ha hb hd, group (fun w => aft m c w t) ha hb hd]
  dsimp only
  rw [aft_live m c a t (live a ha (.inl rfl)), aft_live m c b t (live b (by omega) (.inr (.inl rfl))),
    aft_live m c d t (live d (by omega) (.inr (.inr rfl)))]
  iintro ⟨HΦ, Ho, HI, ⟨H0, H1, H2⟩, HR⟩
  ihave HI := ins_open m c t $$ HI
  ihave H0 := bef_any m c a t $$ H0
  ihave H1 := bef_any m c b t $$ H1
  ihave H2 := bef_any m c d t $$ H2
  ihave HR := rest $$ HR
  iapply (hrun _)
  isplitl [HI]; · iexact HI
  isplitl [H0]; · iexact H0
  isplitl [H1]; · iexact H1
  isplitl [H2]; · iexact H2
  iintro ⟨HI, K0, K1, K2⟩
  isplitl [HΦ]; · iexact HΦ
  isplitl [Ho]; · iexact Ho
  isplitl [HI]; · iapply (ins_close m c t); iexact HI
  iframe ∗

/-- The body at every point: the level whose point it is fills its buffers, the others keep theirs. -/
theorem sound_body (c : Dev nD) (t : Fin cfg0.N) : Sound m c t := by
  have hN : t.val < 46 := t.isLt
  have hlev : (0 ≤ t.val % 23 ∧ t.val % 23 ≤ 15) ∨ (16 ≤ t.val % 23 ∧ t.val % 23 ≤ 19) ∨ (20 ≤ t.val % 23 ∧ t.val % 23 ≤ 20)
      ∨ (21 ≤ t.val % 23 ∧ t.val % 23 ≤ 21) ∨ (22 ≤ t.val % 23 ∧ t.val % 23 ≤ 22) := by omega
  rcases hlev with hl | hl | hl | hl | hl
  · have hs : at0 t = ⟨t, (cond0 t).2 hl⟩ := Subtype.ext (near_self 0 15 (by omega) t hl)
    refine step m c t 5 6 7 (by decide) (by decide) (by decide) (by decide) hl fun K => ?_
    rw [after0_5, after0_6, after0_7, hs]
    exact run0 c (grid0.coords t) (iblk m c 0 t) (iblk m c 1 t) (iblk m c 2 t) (iblk m c 3 t) (iblk m c 4 t)
      ((cond0 t).2 hl) (fun h => absurd ((cond1 t).1 h) (by omega)) (fun h => absurd ((cond2 t).1 h) (by omega)) (fun h => absurd ((cond3 t).1 h) (by omega)) (fun h => absurd ((cond4 t).1 h) (by omega)) Set.univ K
  · have hs : at1 t = ⟨t, (cond1 t).2 hl⟩ := Subtype.ext (near_self 16 19 (by omega) t hl)
    refine step m c t 8 9 10 (by decide) (by decide) (by decide) (by decide) hl fun K => ?_
    rw [after0_8, after0_9, after0_10, hs]
    exact run1 c (grid0.coords t) (iblk m c 0 t) (iblk m c 1 t) (iblk m c 2 t) (iblk m c 3 t) (iblk m c 4 t)
      (fun h => absurd ((cond0 t).1 h) (by omega)) ((cond1 t).2 hl) (fun h => absurd ((cond2 t).1 h) (by omega)) (fun h => absurd ((cond3 t).1 h) (by omega)) (fun h => absurd ((cond4 t).1 h) (by omega)) Set.univ K
  · have hs : at2 t = ⟨t, (cond2 t).2 hl⟩ := Subtype.ext (near_self 20 20 (by omega) t hl)
    refine step m c t 11 12 13 (by decide) (by decide) (by decide) (by decide) hl fun K => ?_
    rw [after0_11, after0_12, after0_13, hs]
    exact run2 c (grid0.coords t) (iblk m c 0 t) (iblk m c 1 t) (iblk m c 2 t) (iblk m c 3 t) (iblk m c 4 t)
      (fun h => absurd ((cond0 t).1 h) (by omega)) (fun h => absurd ((cond1 t).1 h) (by omega)) ((cond2 t).2 hl) (fun h => absurd ((cond3 t).1 h) (by omega)) (fun h => absurd ((cond4 t).1 h) (by omega)) Set.univ K
  · have hs : at3 t = ⟨t, (cond3 t).2 hl⟩ := Subtype.ext (near_self 21 21 (by omega) t hl)
    refine step m c t 14 15 16 (by decide) (by decide) (by decide) (by decide) hl fun K => ?_
    rw [after0_14, after0_15, after0_16, hs]
    exact run3 c (grid0.coords t) (iblk m c 0 t) (iblk m c 1 t) (iblk m c 2 t) (iblk m c 3 t) (iblk m c 4 t)
      (fun h => absurd ((cond0 t).1 h) (by omega)) (fun h => absurd ((cond1 t).1 h) (by omega)) (fun h => absurd ((cond2 t).1 h) (by omega)) ((cond3 t).2 hl) (fun h => absurd ((cond4 t).1 h) (by omega)) Set.univ K
  · have hs : at4 t = ⟨t, (cond4 t).2 hl⟩ := Subtype.ext (near_self 22 22 (by omega) t hl)
    refine step m c t 17 18 19 (by decide) (by decide) (by decide) (by decide) hl fun K => ?_
    rw [after0_17, after0_18, after0_19, hs]
    exact run4 c (grid0.coords t) (iblk m c 0 t) (iblk m c 1 t) (iblk m c 2 t) (iblk m c 3 t) (iblk m c 4 t)
      (fun h => absurd ((cond0 t).1 h) (by omega)) (fun h => absurd ((cond1 t).1 h) (by omega)) (fun h => absurd ((cond2 t).1 h) (by omega)) (fun h => absurd ((cond3 t).1 h) (by omega)) ((cond4 t).2 hl) Set.univ K

/-- The body table's row at a point is the body there. -/
theorem row (t : Fin cfg0.N) : defs₀ (F := F) .tc cfg0.body (cfg0.bodyArgs t (cfg0.slots t)) = bodyAt0 t := by
  unfold defs₀; rw [Defs.onTc_tc]

/-- Every point of the grid runs and leaves the buffers as the data say. -/
theorem body_obligation (c : Dev nD) : BodyObligation (dats (F := F) m 0 c) (defs₀ (F := F)) Variants.none () Set.univ := fun t => by
  rw [row]
  exact triple_restated (sound_body m c t) rfl .rfl fun _ => .rfl

/-! ## The run -/

set_option backward.isDefEq.respectTransparency.types false in
set_option maxHeartbeats 800000 in
/-- Every run of the program ends with its counters at zero, every output array at what its write-backs left, and
    every other buffer at what the host lines after the kernel make of them. -/
theorem run_kernel : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Hand
-- ==== Proof.Math.Spec.lean ====
module

public import Idealize.ShloMosaic.Lib.Pointwise

@[expose] public section

set_option maxRecDepth 16384

noncomputable section

/-! What both programs compute, over the extended reals: a three-by-three convolution with a frame of zeros, its bias and
relu, the two linear heads, and the softmax over two classes. -/

namespace Cert.Heads

open Idealize.ShloMosaic

/-- A feature map inside its frame of zeros: position `(p, q)` of the frame is `(p - 1, q - 1)` of the map. -/
def framed {H W : ℕ} (X : Fin H → Fin W → Fin 256 → EReal) (p q : ℕ) (ch : Fin 256) : EReal :=
  if h : (1 ≤ p ∧ p - 1 < H) ∧ 1 ≤ q ∧ q - 1 < W then X ⟨p - 1, h.1.2⟩ ⟨q - 1, h.2.2⟩ ch else 0

/-- Nine products, one for each tap, of a framed map `Z` with the kernel `T` at position `(y, x)`. -/
def taps (Z : ℕ → ℕ → Fin 256 → EReal) (T : Fin 3 → Fin 3 → Fin 256 → EReal) (y x : ℕ) : EReal :=
  ∑ dy : Fin 3, ∑ dx : Fin 3, ∑ ch, Z (y + dy) (x + dx) ch * T dy dx ch

/-- A shared feature: convolution, bias, relu. -/
def feat {H W : ℕ} (X : Fin H → Fin W → Fin 256 → EReal) (T : Fin 3 → Fin 3 → Fin 256 → Fin 512 → EReal)
    (b : Fin 512 → EReal) (y x : ℕ) (k : Fin 512) : EReal :=
  max (taps (framed X) (fun dy dx ch => T dy dx ch k) y x + b k) 0

/-- One output of a linear head. -/
def lin {n : ℕ} (f : Fin 512 → EReal) (A : Fin 512 → Fin n → EReal) (b : Fin n → EReal) (o : Fin n) : EReal :=
  (∑ k, f k * A k o) + b o

/-- The softmax of the first of two logits. -/
def pair (l l' : EReal) : EReal :=
  Ideal.div (Ideal.exp (l - max l l')) (Ideal.exp (l - max l l') + Ideal.exp (l' - max l l'))

/-- The other class of the same anchor, among three anchors of two classes. -/
def other (o : Fin 6) : Fin 6 := ⟨(o.1 + 1) % 2 + o.1 / 2 * 2, by omega⟩

/-- The probability of one of the three anchors' two classes. -/
def prob (f : Fin 512 → EReal) (A : Fin 512 → Fin 6 → EReal) (b : Fin 6 → EReal) (o : Fin 6) : EReal :=
  pair (lin f A b o) (lin f A b (other o))

section Level
variable {H W : ℕ} (X : (⟨4, ![2, H, W, 256]⟩ : Shape).Idx → EReal) (T : (⟨4, ![3, 3, 256, 512]⟩ : Shape).Idx → EReal)
  (bs : (⟨1, ![512]⟩ : Shape).Idx → EReal)

/-- The shared features of one level, its positions counted row by row. -/
def featAt (b : Fin 2) (n : ℕ) : Fin 512 → EReal :=
  feat (fun y x ch => X (ix4 b y x ch)) (fun dy dx ch k => T (ix4 dy dx ch k)) (fun k => bs (ix1 k)) (n / W) (n % W)

/-- One linear head of a level at position `n`. -/
def linAt {c : ℕ} (A : (⟨4, ![1, 1, 512, c]⟩ : Shape).Idx → EReal) (a : (⟨1, ![c]⟩ : Shape).Idx → EReal) (b : Fin 2) (n : ℕ)
    (o : Fin c) : EReal :=
  lin (featAt X T bs b n) (fun k o => A (ix4 0 0 k o)) (fun o => a (ix1 o)) o

/-- The class probabilities of a level at position `n`. -/
def probAt (A : (⟨4, ![1, 1, 512, 6]⟩ : Shape).Idx → EReal) (a : (⟨1, ![6]⟩ : Shape).Idx → EReal) (b : Fin 2) (n : ℕ)
    (o : Fin 6) : EReal :=
  prob (featAt X T bs b n) (fun k o => A (ix4 0 0 k o)) (fun o => a (ix1 o)) o

end Level

/-- The nine taps added up column by column of the kernel. -/
theorem taps_columns (Z : ℕ → ℕ → Fin 256 → EReal) (T : Fin 3 → Fin 3 → Fin 256 → EReal) (y x : ℕ) :
    taps Z T y x = (∑ ch, Z y x ch * T 0 0 ch) + (∑ ch, Z (y + 1) x ch * T 1 0 ch) + (∑ ch, Z (y + 2) x ch * T 2 0 ch)
      + (∑ ch, Z y (x + 1) ch * T 0 1 ch) + (∑ ch, Z (y + 1) (x + 1) ch * T 1 1 ch) + (∑ ch, Z (y + 2) (x + 1) ch * T 2 1 ch)
      + (∑ ch, Z y (x + 2) ch * T 0 2 ch) + (∑ ch, Z (y + 1) (x + 2) ch * T 1 2 ch) + (∑ ch, Z (y + 2) (x + 2) ch * T 2 2 ch) := by
  simp only [taps, Fin.sum_univ_three, Fin.val_zero, Fin.val_one, Fin.val_two, Nat.add_zero]
  abel

/-- The nine taps added up row by row of the kernel. -/
theorem taps_rows (Z : ℕ → ℕ → Fin 256 → EReal) (T : Fin 3 → Fin 3 → Fin 256 → EReal) (y x : ℕ) :
    taps Z T y x = (∑ ch, Z y x ch * T 0 0 ch) + (∑ ch, Z y (x + 1) ch * T 0 1 ch) + (∑ ch, Z y (x + 2) ch * T 0 2 ch)
      + (∑ ch, Z (y + 1) x ch * T 1 0 ch) + (∑ ch, Z (y + 1) (x + 1) ch * T 1 1 ch) + (∑ ch, Z (y + 1) (x + 2) ch * T 1 2 ch)
      + (∑ ch, Z (y + 2) x ch * T 2 0 ch) + (∑ ch, Z (y + 2) (x + 1) ch * T 2 1 ch) + (∑ ch, Z (y + 2) (x + 2) ch * T 2 2 ch) := by
  simp only [taps, Fin.sum_univ_three, Fin.val_zero, Fin.val_one, Fin.val_two, Nat.add_zero]
  abel

/-- Taps read off rows: a block of rows of width `Wp`, one after the other, holds the framed map `Z`; `n₀₀`, `n₁₀`, … are the
    nine places of the block that a position reads, column by column of the kernel. -/
theorem taps_of_block {N : ℕ} (Wp : ℕ) {v : Fin N → Fin 256 → EReal} {Z : ℕ → ℕ → Fin 256 → EReal}
    (hv : ∀ n ch, v n ch = Z (n.1 / Wp) (n.1 % Wp) ch) (T : Fin 3 → Fin 3 → Fin 256 → EReal) (y x : ℕ) (hx : x + 2 < Wp)
    (n₀₀ n₁₀ n₂₀ n₀₁ n₁₁ n₂₁ n₀₂ n₁₂ n₂₂ : Fin N)
    (h₀₀ : n₀₀.1 = y * Wp + x) (h₁₀ : n₁₀.1 = (y + 1) * Wp + x) (h₂₀ : n₂₀.1 = (y + 2) * Wp + x)
    (h₀₁ : n₀₁.1 = y * Wp + (x + 1)) (h₁₁ : n₁₁.1 = (y + 1) * Wp + (x + 1)) (h₂₁ : n₂₁.1 = (y + 2) * Wp + (x + 1))
    (h₀₂ : n₀₂.1 = y * Wp + (x + 2)) (h₁₂ : n₁₂.1 = (y + 1) * Wp + (x + 2)) (h₂₂ : n₂₂.1 = (y + 2) * Wp + (x + 2)) :
    (∑ ch, v n₀₀ ch * T 0 0 ch) + (∑ ch, v n₁₀ ch * T 1 0 ch) + (∑ ch, v n₂₀ ch * T 2 0 ch)
      + (∑ ch, v n₀₁ ch * T 0 1 ch) + (∑ ch, v n₁₁ ch * T 1 1 ch) + (∑ ch, v n₂₁ ch * T 2 1 ch)
      + (∑ ch, v n₀₂ ch * T 0 2 ch) + (∑ ch, v n₁₂ ch * T 1 2 ch) + (∑ ch, v n₂₂ ch * T 2 2 ch) = taps Z T y x := by
  have place : ∀ (n : Fin N) (a b : ℕ), b < Wp → n.1 = a * Wp + b → ∀ ch, v n ch = Z a b ch := fun n a b hb hn ch => by
    rw [hv, hn, Nat.mul_comm a, Nat.mul_add_div (by omega), Nat.mul_add_mod, Nat.mod_eq_of_lt hb, Nat.div_eq_of_lt hb, Nat.add_zero]
  rw [taps_columns]
  simp only [place n₀₀ _ _ (by omega) h₀₀, place n₁₀ _ _ (by omega) h₁₀, place n₂₀ _ _ (by omega) h₂₀,
    place n₀₁ _ _ (by omega) h₀₁, place n₁₁ _ _ (by omega) h₁₁, place n₂₁ _ _ (by omega) h₂₁,
    place n₀₂ _ _ (by omega) h₀₂, place n₁₂ _ _ (by omega) h₁₂, place n₂₂ _ _ (by omega) h₂₂]

/-- Starting the framed map `y₀` rows lower is reading it `y₀` rows lower. -/
theorem taps_shift (Z : ℕ → ℕ → Fin 256 → EReal) (T : Fin 3 → Fin 3 → Fin 256 → EReal) (y₀ y x : ℕ) :
    taps (fun p q => Z (y₀ + p) q) T y x = taps Z T (y₀ + y) x := by
  simp only [taps, Nat.add_assoc]

/-- The largest of two numbers, folded from any start. -/
theorem fold_two (z : EReal) (l : Fin 2 → EReal) : Finset.fold max z l Finset.univ = max (l 0) (max (l 1) z) := by
  rw [show (Finset.univ : Finset (Fin 2)) = {0, 1} from rfl, Finset.fold_insert (by decide), Finset.fold_singleton]

/-- A softmax over two logits, its largest taken from `-∞`. -/
theorem softmax_two (l : Fin 2 → EReal) (j : Fin 2) :
    Ideal.div (Ideal.exp (l j - max ⊥ (Finset.fold max ⊥ l Finset.univ)))
        (∑ x, Ideal.exp (l x - max ⊥ (Finset.fold max ⊥ l Finset.univ))) = pair (l j) (l ⟨1 - j.1, by omega⟩) := by
  rw [fold_two, max_eq_right bot_le, max_eq_left bot_le, Fin.sum_univ_two]
  fin_cases j
  · rfl
  · show Ideal.div (Ideal.exp (l 1 - max (l 0) (l 1))) _ = pair (l 1) (l 0)
    rw [pair, max_comm (l 0), add_comm (Ideal.exp (l 0 - _))]

/-- The word of `-∞`. -/
theorem ofBits_bottom : Ideal.ofBits .f32 0xFF800000#32 = ⊥ := by
  simp [Ideal.ofBits, Ideal.ieee]

/-- The other class of the other class is the class. -/
theorem other_other (o : Fin 6) : other (other o) = o := Fin.ext (by show _ = o.1; simp only [other]; omega)

end Cert.Heads
-- ==== Proof.Math.Entry.lean ====
module

public import proofs.«01_k».proof.Proof.Gen.KernelIdeal.Frame
public import proofs.«01_k».proof.Proof.Math.Spec
public import Idealize.ShloMosaic.Lib.Claim
public import Idealize.ShloMosaic.Lib.Pointwise

@[expose] public section

set_option maxRecDepth 16384

noncomputable section

/-! What the arrays hold when the grid starts: the host operations before it lay the five feature maps out, framed by zeros,
in one array of rows, and put the head's columns side by side. -/

namespace Cert.KernelIdeal.Hand

open Cert.KernelIdeal Cert.KernelIdeal.Gen Cert.Heads
open Idealize.ShloMosaic Idealize.ShloMosaic.TcCoe

variable (m : (ℓ : Loc nD τ sig) → Buf (Elt Ideal) ℓ)

/-- The filler of the frame. -/
def filler : FVec Ideal S_ .bf16 := sitofp .bf16 (constantI S_ 32 0#32)

/-- The filler is zero. -/
theorem filler_eq (i : S_.Idx) : filler i = (0 : EReal) := by
  show ((((0#32 : BitVec 32).toInt : ℤ) : ℝ) : EReal) = 0
  simp

/-- The rows of level 0. -/
def rows0 (X : FVec Ideal S2x128x128x256 .f32) : FVec Ideal S2x17680x256 .bf16 :=
  shapeCast S2x17680x256 (pad S2x130x136x256 ![0, 1, 1, 0] ![0, 1, 7, 0] ![0, 0, 0, 0] (truncf .bf16 X bitsLt_bf16_f32) filler
    pads_S2x128x128x256_S2x130x136x256_000_110_170_000 h_S_) shapeCasts_S2x130x136x256_S2x17680x256

/-- The rows of level 0 are its map with a border of zeros, line by line. -/
theorem rows0_eq (X : FVec Ideal S2x128x128x256 .f32) (b : Fin 2) (n : Fin 17680) (ch : Fin 256) :
    rows0 X (ix3 b n ch) = framed (fun y x ch => X (ix4 b y x ch)) (n.1 / 136) (n.1 % 136) ch := by
  pointwise [rows0]
  simp only [filler_eq]
  rfl

/-- The rows of level 1. -/
def rows1 (X : FVec Ideal S2x64x64x256 .f32) : FVec Ideal S2x4752x256 .bf16 :=
  shapeCast S2x4752x256 (pad S2x66x72x256 ![0, 1, 1, 0] ![0, 1, 7, 0] ![0, 0, 0, 0] (truncf .bf16 X bitsLt_bf16_f32) filler
    pads_S2x64x64x256_S2x66x72x256_000_110_170_000 h_S_) shapeCasts_S2x66x72x256_S2x4752x256

/-- The rows of level 1 are its map with a border of zeros, line by line. -/
theorem rows1_eq (X : FVec Ideal S2x64x64x256 .f32) (b : Fin 2) (n : Fin 4752) (ch : Fin 256) :
    rows1 X (ix3 b n ch) = framed (fun y x ch => X (ix4 b y x ch)) (n.1 / 72) (n.1 % 72) ch := by
  pointwise [rows1]
  simp only [filler_eq]
  rfl

/-- The rows of level 2. -/
def rows2 (X : FVec Ideal S2x32x32x256 .f32) : FVec Ideal S2x1360x256 .bf16 :=
  shapeCast S2x1360x256 (pad S2x34x40x256 ![0, 1, 1, 0] ![0, 1, 7, 0] ![0, 0, 0, 0] (truncf .bf16 X bitsLt_bf16_f32) filler
    pads_S2x32x32x256_S2x34x40x256_000_110_170_000 h_S_) shapeCasts_S2x34x40x256_S2x1360x256

/-- The rows of level 2 are its map with a border of zeros, line by line. -/
theorem rows2_eq (X : FVec Ideal S2x32x32x256 .f32) (b : Fin 2) (n : Fin 1360) (ch : Fin 256) :
    rows2 X (ix3 b n ch) = framed (fun y x ch => X (ix4 b y x ch)) (n.1 / 40) (n.1 % 40) ch := by
  pointwise [rows2]
  simp only [filler_eq]
  rfl

/-- The rows of level 3. -/
def rows3 (X : FVec Ideal S2x16x16x256 .f32) : FVec Ideal S2x432x256 .bf16 :=
  shapeCast S2x432x256 (pad S2x18x24x256 ![0, 1, 1, 0] ![0, 1, 7, 0] ![0, 0, 0, 0] (truncf .bf16 X bitsLt_bf16_f32) filler
    pads_S2x16x16x256_S2x18x24x256_000_110_170_000 h_S_) shapeCasts_S2x18x24x256_S2x432x256

/-- The rows of level 3 are its map with a border of zeros, line by line. -/
theorem rows3_eq (X : FVec Ideal S2x16x16x256 .f32) (b : Fin 2) (n : Fin 432) (ch : Fin 256) :
    rows3 X (ix3 b n ch) = framed (fun y x ch => X (ix4 b y x ch)) (n.1 / 24) (n.1 % 24) ch := by
  pointwise [rows3]
  simp only [filler_eq]
  rfl

/-- The rows of level 4. -/
def rows4 (X : FVec Ideal S2x8x8x256 .f32) : FVec Ideal S2x160x256 .bf16 :=
  shapeCast S2x160x256 (pad S2x10x16x256 ![0, 1, 1, 0] ![0, 1, 7, 0] ![0, 0, 0, 0] (truncf .bf16 X bitsLt_bf16_f32) filler
    pads_S2x8x8x256_S2x10x16x256_000_110_170_000 h_S_) shapeCasts_S2x10x16x256_S2x160x256

/-- The rows of level 4 are its map with a border of zeros, line by line. -/
theorem rows4_eq (X : FVec Ideal S2x8x8x256 .f32) (b : Fin 2) (n : Fin 160) (ch : Fin 256) :
    rows4 X (ix3 b n ch) = framed (fun y x ch => X (ix4 b y x ch)) (n.1 / 16) (n.1 % 16) ch := by
  pointwise [rows4]
  simp only [filler_eq]
  rfl

/-- The five levels' rows, one level after the other. -/
def xcat (X0 : FVec Ideal S2x128x128x256 .f32) (X1 : FVec Ideal S2x64x64x256 .f32) (X2 : FVec Ideal S2x32x32x256 .f32)
    (X3 : FVec Ideal S2x16x16x256 .f32) (X4 : FVec Ideal S2x8x8x256 .f32) : FVec Ideal S2x24384x256 .bf16 :=
  concatenate S2x24384x256 1 [⟨S2x17680x256, rows0 X0⟩, ⟨S2x4752x256, rows1 X1⟩, ⟨S2x1360x256, rows2 X2⟩, ⟨S2x432x256, rows3 X3⟩,
    ⟨S2x160x256, rows4 X4⟩] concatenates_S2x17680x256_S2x4752x256_S2x1360x256_S2x432x256_S2x160x256_S2x24384x256_d1

section Places
variable (X0 : FVec Ideal S2x128x128x256 .f32) (X1 : FVec Ideal S2x64x64x256 .f32) (X2 : FVec Ideal S2x32x32x256 .f32)
  (X3 : FVec Ideal S2x16x16x256 .f32) (X4 : FVec Ideal S2x8x8x256 .f32)

/-- Where the rows of level 0 lie among all rows. -/
theorem xcat_level0 (b : Fin 2) (n : Fin 17680) (ch : Fin 256) :
    xcat X0 X1 X2 X3 X4 (ix3 b ⟨0 + n.1, by omega⟩ ch) = rows0 X0 (ix3 b n ch) := by
  pointwise [xcat] <;> split_ifs <;>
    first | omega | exact congrArg (fun n => rows0 X0 (ix3 b n ch)) (Fin.ext (by dsimp only; omega))

/-- Where the rows of level 1 lie among all rows. -/
theorem xcat_level1 (b : Fin 2) (n : Fin 4752) (ch : Fin 256) :
    xcat X0 X1 X2 X3 X4 (ix3 b ⟨17680 + n.1, by omega⟩ ch) = rows1 X1 (ix3 b n ch) := by
  pointwise [xcat] <;> split_ifs <;>
    first | omega | exact congrArg (fun n => rows1 X1 (ix3 b n ch)) (Fin.ext (by dsimp only; omega))

/-- Where the rows of level 2 lie among all rows. -/
theorem xcat_level2 (b : Fin 2) (n : Fin 1360) (ch : Fin 256) :
    xcat X0 X1 X2 X3 X4 (ix3 b ⟨22432 + n.1, by omega⟩ ch) = rows2 X2 (ix3 b n ch) := by
  pointwise [xcat] <;> split_ifs <;>
    first | omega | exact congrArg (fun n => rows2 X2 (ix3 b n ch)) (Fin.ext (by dsimp only; omega))

/-- Where the rows of level 3 lie among all rows. -/
theorem xcat_level3 (b : Fin 2) (n : Fin 432) (ch : Fin 256) :
    xcat X0 X1 X2 X3 X4 (ix3 b ⟨23792 + n.1, by omega⟩ ch) = rows3 X3 (ix3 b n ch) := by
  pointwise [xcat] <;> split_ifs <;>
    first | omega | exact congrArg (fun n => rows3 X3 (ix3 b n ch)) (Fin.ext (by dsimp only; omega))

/-- Where the rows of level 4 lie among all rows. -/
theorem xcat_level4 (b : Fin 2) (n : Fin 160) (ch : Fin 256) :
    xcat X0 X1 X2 X3 X4 (ix3 b ⟨24224 + n.1, by omega⟩ ch) = rows4 X4 (ix3 b n ch) := by
  pointwise [xcat] <;> split_ifs <;>
    first | omega | exact congrArg (fun n => rows4 X4 (ix3 b n ch)) (Fin.ext (by dsimp only; omega))

end Places

/-- The positions `[1, 0, 3, 2, 5, 4]`, which swap the two classes of each anchor. -/
def positions : IVec S6 32 := fun i => lit0 (S6.rowMajor i)

/-- The same as a column of start indices, a negative one counted from the end. -/
def starts (w : IVec S6 32) : IVec S6x1 32 :=
  broadcastInDim S6x1 ![0] bcast_S6_S6x1_0
    (select (cmpi CmpIPredicate.slt w (broadcastInDim S6 ![] bcast_S_S6 (constantI S_ 32 0#32)))
      (addi w (broadcastInDim S6 ![] bcast_S_S6 (constantI S_ 32 6#32))) w)

/-- Taking columns at these positions takes each class's pair. -/
theorem column_other (k : Fin 512) (o : Fin 6) :
    gather_S512x6_S6x1_S512x6_0_1_n_n_1_1_5121.operandIdx (ix2 k o) (starts positions) = ix2 k (other o) := by
  funext a
  refine Fin.ext ?_
  fin_cases a
  · exact (show 0 + 0 + k.1 = k.1 by omega)
  · fin_cases o <;> first | rfl | exact (show 0 + 0 + 0 = 0 from rfl)

/-- Taking bias entries at these positions takes each class's pair. -/
theorem entry_other (o : Fin 6) :
    gather_S6_S6x1_S6_n_0_n_n_0_1_1.operandIdx (ix1 o) (starts positions) = ix1 (other o) := by
  funext a
  fin_cases o <;> fin_cases a <;> rfl

/-- The head's matrix: class columns, the same with each anchor's classes swapped, box columns. -/
def whead (A : FVec Ideal S1x1x512x6 .f32) (B : FVec Ideal S1x1x512x12 .f32) : FVec Ideal S512x24 .bf16 :=
  truncf .bf16 (concatenate S512x24 1 [⟨S512x6, shapeCast S512x6 A shapeCasts_S1x1x512x6_S512x6⟩,
    ⟨S512x6, Host.gather gather_S512x6_S6x1_S512x6_0_1_n_n_1_1_5121 (shapeCast S512x6 A shapeCasts_S1x1x512x6_S512x6) (starts positions)⟩,
    ⟨S512x12, shapeCast S512x12 B shapeCasts_S1x1x512x12_S512x12⟩] concatenates_S512x6_S512x6_S512x12_S512x24_d1) bitsLt_bf16_f32

/-- The head's bias, laid out in the same way. -/
def bhead (A : FVec Ideal S6 .f32) (B : FVec Ideal S12 .f32) : FVec Ideal S1x24 .f32 :=
  shapeCast S1x24 (concatenate S24 0 [⟨S6, A⟩, ⟨S6, Host.gather gather_S6_S6x1_S6_n_0_n_n_0_1_1 A (starts positions)⟩, ⟨S12, B⟩]
    concatenates_S6_S6_S12_S24_d0) shapeCasts_S24_S1x24

section Columns
variable (A : FVec Ideal S1x1x512x6 .f32) (B : FVec Ideal S1x1x512x12 .f32) (a : FVec Ideal S6 .f32) (b : FVec Ideal S12 .f32)

/-- Columns 0 to 5 of the head's matrix are the class columns. -/
theorem whead_class (k : Fin 512) (o : Fin 6) : whead A B (ix2 k ⟨0 + o.1, by omega⟩) = A (ix4 0 0 k o) := by
  pointwise [whead]

/-- Columns 6 to 11 are the class columns of the other class. -/
theorem whead_pair (k : Fin 512) (o : Fin 6) : whead A B (ix2 k ⟨6 + o.1, by omega⟩) = A (ix4 0 0 k (other o)) := by
  pointwise [whead]
  show shapeCast S512x6 A shapeCasts_S1x1x512x6_S512x6 _ = _
  rw [column_other]
  pointwise

/-- Columns 12 to 23 are the box columns. -/
theorem whead_box (k : Fin 512) (o : Fin 12) : whead A B (ix2 k ⟨12 + o.1, by omega⟩) = B (ix4 0 0 k o) := by
  pointwise [whead]
  rw [dif_neg (by omega), dif_neg (by omega)]
  exact congrArg (fun o => B (ix4 0 0 k o)) (Fin.ext (by show 12 + o.1 - 6 - 6 = o.1; omega))

/-- Entries 0 to 5 of the head's bias are the class bias. -/
theorem bhead_class (o : Fin 6) : bhead a b (ix2 0 ⟨0 + o.1, by omega⟩) = a (ix1 o) := by
  pointwise [bhead]

/-- Entries 6 to 11 are the class bias of the other class. -/
theorem bhead_pair (o : Fin 6) : bhead a b (ix2 0 ⟨6 + o.1, by omega⟩) = a (ix1 (other o)) := by
  pointwise [bhead]
  show a _ = _
  rw [entry_other]

/-- Entries 12 to 23 are the box bias. -/
theorem bhead_box (o : Fin 12) : bhead a b (ix2 0 ⟨12 + o.1, by omega⟩) = b (ix1 o) := by
  pointwise [bhead]
  rw [dif_neg (by omega), dif_neg (by omega)]
  exact congrArg (fun o => b (ix1 o)) (Fin.ext (by show 12 + o.1 - 6 - 6 = o.1; omega))

end Columns

/-! The arrays at the start of the grid are these. -/

/-- The stacked maps at the start of the grid. -/
theorem V_xcat (c : Dev nD) : V m c main_v37 = xcat (m ((c : Thread nD τ).loc main_arg0)) (m ((c : Thread nD τ).loc main_arg1))
    (m ((c : Thread nD τ).loc main_arg2)) (m ((c : Thread nD τ).loc main_arg3)) (m ((c : Thread nD τ).loc main_arg4)) := by
  unfold V V0
  simp only [List.flatten_cons, List.flatten_nil, List.append_nil, List.cons_append, List.nil_append]
  simp only [StableHlo.after_cons, StableHlo.after_nil]
  after_results_simp
  dsimp only [Matrix.cons_val]
  simp -implicitDefEqProofs only [↓ StableHlo.readResult, ↓ StableHlo.readPieces, StableHlo.TRef.toBuf, StableHlo.TRef.ofBuf,
    cast_cast, cast_eq, -eq_self]
  rfl

/-- The head's matrix at the start of the grid. -/
theorem V_whead (c : Dev nD) :
    V m c main_v12 = whead (m ((c : Thread nD τ).loc main_arg7)) (m ((c : Thread nD τ).loc main_arg9)) := by
  unfold V V0
  simp only [List.flatten_cons, List.flatten_nil, List.append_nil, List.cons_append, List.nil_append]
  simp only [StableHlo.after_cons, StableHlo.after_nil]
  after_results_simp
  dsimp only [Matrix.cons_val]
  simp only [↓ StableHlo.readResult, ↓ StableHlo.readPieces, -eq_self]
  repeat rw [StableHlo.nullary_result]
  rfl

/-- The head's bias at the start of the grid. -/
theorem V_bhead (c : Dev nD) :
    V m c main_v21 = bhead (m ((c : Thread nD τ).loc main_arg8)) (m ((c : Thread nD τ).loc main_arg10)) := by
  unfold V V0
  simp only [List.flatten_cons, List.flatten_nil, List.append_nil, List.cons_append, List.nil_append]
  simp only [StableHlo.after_cons, StableHlo.after_nil]
  after_results_simp
  dsimp only [Matrix.cons_val]
  simp only [↓ StableHlo.readResult, ↓ StableHlo.readPieces, -eq_self]
  repeat rw [StableHlo.nullary_result]
  rfl

/-- The shared kernel at the start of the grid. -/
theorem V_wsh (c : Dev nD) :
    V m c main_v0 = (truncf .bf16 (m ((c : Thread nD τ).loc main_arg5) : FVec Ideal S3x3x256x512 .f32) bitsLt_bf16_f32 : FVec Ideal S3x3x256x512 .bf16) := by
  unfold V V0
  simp only [List.flatten_cons, List.flatten_nil, List.append_nil, List.cons_append, List.nil_append]
  simp only [StableHlo.after_cons, StableHlo.after_nil]
  after_results_simp

/-- The shared bias at the start of the grid. -/
theorem V_bsh (c : Dev nD) :
    V m c main_v1 = shapeCast S1x512 (m ((c : Thread nD τ).loc main_arg6) : FVec Ideal S512 .f32) shapeCasts_S512_S1x512 := by
  unfold V V0
  simp only [List.flatten_cons, List.flatten_nil, List.append_nil, List.cons_append, List.nil_append]
  simp only [StableHlo.after_cons, StableHlo.after_nil]
  after_results_simp
  rfl

/-! The rows of one level among the arrays at the start of the grid are its bordered map. -/

/-- Level 0 starts at row 0, with lines of 136. -/
theorem level0 (c : Dev nD) (b : Fin 2) (n : Fin 17680) (ch : Fin 256) (h : 0 + n.1 < 24384) :
    V m c main_v37 (ix3 b ⟨0 + n.1, h⟩ ch)
      = framed (fun y x ch => (m ((c : Thread nD τ).loc main_arg0) : FVec Ideal S2x128x128x256 .f32) (ix4 b y x ch)) (n.1 / 136) (n.1 % 136) ch := by
  rw [V_xcat, xcat_level0, rows0_eq]

/-- Level 1 starts at row 17680, with lines of 72. -/
theorem level1 (c : Dev nD) (b : Fin 2) (n : Fin 4752) (ch : Fin 256) (h : 17680 + n.1 < 24384) :
    V m c main_v37 (ix3 b ⟨17680 + n.1, h⟩ ch)
      = framed (fun y x ch => (m ((c : Thread nD τ).loc main_arg1) : FVec Ideal S2x64x64x256 .f32) (ix4 b y x ch)) (n.1 / 72) (n.1 % 72) ch := by
  rw [V_xcat, xcat_level1, rows1_eq]

/-- Level 2 starts at row 22432, with lines of 40. -/
theorem level2 (c : Dev nD) (b : Fin 2) (n : Fin 1360) (ch : Fin 256) (h : 22432 + n.1 < 24384) :
    V m c main_v37 (ix3 b ⟨22432 + n.1, h⟩ ch)
      = framed (fun y x ch => (m ((c : Thread nD τ).loc main_arg2) : FVec Ideal S2x32x32x256 .f32) (ix4 b y x ch)) (n.1 / 40) (n.1 % 40) ch := by
  rw [V_xcat, xcat_level2, rows2_eq]

/-- Level 3 starts at row 23792, with lines of 24. -/
theorem level3 (c : Dev nD) (b : Fin 2) (n : Fin 432) (ch : Fin 256) (h : 23792 + n.1 < 24384) :
    V m c main_v37 (ix3 b ⟨23792 + n.1, h⟩ ch)
      = framed (fun y x ch => (m ((c : Thread nD τ).loc main_arg3) : FVec Ideal S2x16x16x256 .f32) (ix4 b y x ch)) (n.1 / 24) (n.1 % 24) ch := by
  rw [V_xcat, xcat_level3, rows3_eq]

/-- Level 4 starts at row 24224, with lines of 16. -/
theorem level4 (c : Dev nD) (b : Fin 2) (n : Fin 160) (ch : Fin 256) (h : 24224 + n.1 < 24384) :
    V m c main_v37 (ix3 b ⟨24224 + n.1, h⟩ ch)
      = framed (fun y x ch => (m ((c : Thread nD τ).loc main_arg4) : FVec Ideal S2x8x8x256 .f32) (ix4 b y x ch)) (n.1 / 16) (n.1 % 16) ch := by
  rw [V_xcat, xcat_level4, rows4_eq]

end Cert.KernelIdeal.Hand
-- ==== Proof.Math.Block.lean ====
module

public import proofs.«01_k».proof.Proof.Body.Taps
public import proofs.«01_k».proof.Proof.Math.Spec

@[expose] public section

set_option maxRecDepth 16384

noncomputable section

/-! What one grid point computes from the blocks it is given, level by level: the nine taps over the rows it has read, then
the two heads. -/

namespace Cert.KernelIdeal.Hand

open Cert.KernelIdeal Cert.KernelIdeal.Gen Cert.Heads
open Idealize.ShloMosaic

/-- The features of one position, from the row of convolution sums and the bias. -/
abbrev featRow {n : ℕ} (a : (⟨2, ![n, 512]⟩ : Shape).Idx → EReal) (b : (⟨2, ![1, 512]⟩ : Shape).Idx → EReal) (r : Fin n) (k : Fin 512) :
    EReal := max (a (ix2 r k) + b (ix2 0 k)) 0

/-- Column `o` of the three column groups of the head, starting at `s`. -/
abbrev cols {n : ℕ} (A : (⟨2, ![512, 24]⟩ : Shape).Idx → EReal) (s : ℕ) (h : s + n ≤ 24) (k : Fin 512) (o : Fin n) : EReal :=
  A (ix2 k ⟨s + o.1, by omega⟩)

/-- The same of its bias. -/
abbrev cobs {n : ℕ} (b : (⟨2, ![1, 24]⟩ : Shape).Idx → EReal) (s : ℕ) (h : s + n ≤ 24) (o : Fin n) : EReal :=
  b (ix2 0 ⟨s + o.1, by omega⟩)

/-- Level 0: the body's nine products are the taps over the rows it has read. -/
theorem acc0_eq (v : Vec Ideal S1x1360x256 .bf16) (x1 : Vec Ideal S3x3x256x512 .bf16) (Z : ℕ → ℕ → Fin 256 → EReal)
    (hv : ∀ (n : Fin 1360) (ch : Fin 256), v (ix3 0 n ch) = Z (n.1 / 136) (n.1 % 136) ch) (r : Fin 1024) (k : Fin 512) :
    acc0 v x1 (ix2 r k) = taps Z (fun dy dx ch => x1 (ix4 dy dx ch k)) (r.1 / 128) (r.1 % 128) := by
  pointwise [acc0, wtap, k0_pay31, k0_pay26, k0_pay27, k0_pay28, k0_pay29, k0_pay30]
  refine taps_of_block 136 (v := fun n ch => v (ix3 0 n ch)) hv (fun dy dx ch => x1 (ix4 dy dx ch k)) (r.1 / 128) (r.1 % 128)
    (by omega) _ _ _ _ _ _ _ _ _ ?_ ?_ ?_ ?_ ?_ ?_ ?_ ?_ ?_ <;> first | rfl | (dsimp only; omega)

/-- Level 0: the class columns. -/
theorem logit0_eq (a : FVec Ideal S1024x512 .f32) (x2 : Vec Ideal S1x512 .f32) (x3 : Vec Ideal S512x24 .bf16) (x4 : Vec Ideal S1x24 .f32)
    (z : Fin 1) (r : Fin 1024) (o : Fin 6) :
    k0_pay3 a x2 x3 x4 (ix3 z r o) = lin (featRow a x2 r) (cols x3 0 (by omega)) (cobs x4 0 (by omega)) o := by
  pointwise [k0_pay3, k0_pay2, k0_pay1]
  simp only [lin, featRow, cols, cobs, Nat.zero_add]

/-- Level 0: the softmax of a class column and the column of its pair. -/
theorem prob0_eq (a : FVec Ideal S1024x512 .f32) (x2 : Vec Ideal S1x512 .f32) (x3 : Vec Ideal S512x24 .bf16) (x4 : Vec Ideal S1x24 .f32)
    (z : Fin 1) (r : Fin 1024) (o : Fin 6) :
    k0_pay4 a x2 x3 x4 (ix3 z r o) = pair (lin (featRow a x2 r) (cols x3 0 (by omega)) (cobs x4 0 (by omega)) o)
      (lin (featRow a x2 r) (cols x3 6 (by omega)) (cobs x4 6 (by omega)) o) := by
  pointwise [k0_pay4, k0_pay2, k0_pay1]
  simp only [pair, lin, featRow, cols, cobs, Nat.zero_add]

/-- Level 0: the box columns. -/
theorem box0_eq (a : FVec Ideal S1024x512 .f32) (x2 : Vec Ideal S1x512 .f32) (x3 : Vec Ideal S512x24 .bf16) (x4 : Vec Ideal S1x24 .f32)
    (z : Fin 1) (r : Fin 1024) (o : Fin 12) :
    k0_pay5 a x2 x3 x4 (ix3 z r o) = lin (featRow a x2 r) (cols x3 12 (by omega)) (cobs x4 12 (by omega)) o := by
  pointwise [k0_pay5, k0_pay2, k0_pay1]
  simp only [lin, featRow, cols, cobs]

/-- Level 1: the body's nine products are the taps over the rows it has read. -/
theorem acc1_eq (v : Vec Ideal S1x1296x256 .bf16) (x1 : Vec Ideal S3x3x256x512 .bf16) (Z : ℕ → ℕ → Fin 256 → EReal)
    (hv : ∀ (n : Fin 1296) (ch : Fin 256), v (ix3 0 n ch) = Z (n.1 / 72) (n.1 % 72) ch) (r : Fin 1024) (k : Fin 512) :
    acc1 v x1 (ix2 r k) = taps Z (fun dy dx ch => x1 (ix4 dy dx ch k)) (r.1 / 64) (r.1 % 64) := by
  pointwise [acc1, wtap, k0_pay37, k0_pay32, k0_pay33, k0_pay34, k0_pay35, k0_pay36]
  refine taps_of_block 72 (v := fun n ch => v (ix3 0 n ch)) hv (fun dy dx ch => x1 (ix4 dy dx ch k)) (r.1 / 64) (r.1 % 64)
    (by omega) _ _ _ _ _ _ _ _ _ ?_ ?_ ?_ ?_ ?_ ?_ ?_ ?_ ?_ <;> first | rfl | (dsimp only; omega)

/-- Level 1: the class columns. -/
theorem logit1_eq (a : FVec Ideal S1024x512 .f32) (x2 : Vec Ideal S1x512 .f32) (x3 : Vec Ideal S512x24 .bf16) (x4 : Vec Ideal S1x24 .f32)
    (z : Fin 1) (r : Fin 1024) (o : Fin 6) :
    k0_pay8 a x2 x3 x4 (ix3 z r o) = lin (featRow a x2 r) (cols x3 0 (by omega)) (cobs x4 0 (by omega)) o :=
  logit0_eq a x2 x3 x4 z r o

/-- Level 1: the softmax of a class column and the column of its pair. -/
theorem prob1_eq (a : FVec Ideal S1024x512 .f32) (x2 : Vec Ideal S1x512 .f32) (x3 : Vec Ideal S512x24 .bf16) (x4 : Vec Ideal S1x24 .f32)
    (z : Fin 1) (r : Fin 1024) (o : Fin 6) :
    k0_pay9 a x2 x3 x4 (ix3 z r o) = pair (lin (featRow a x2 r) (cols x3 0 (by omega)) (cobs x4 0 (by omega)) o)
      (lin (featRow a x2 r) (cols x3 6 (by omega)) (cobs x4 6 (by omega)) o) :=
  prob0_eq a x2 x3 x4 z r o

/-- Level 1: the box columns. -/
theorem box1_eq (a : FVec Ideal S1024x512 .f32) (x2 : Vec Ideal S1x512 .f32) (x3 : Vec Ideal S512x24 .bf16) (x4 : Vec Ideal S1x24 .f32)
    (z : Fin 1) (r : Fin 1024) (o : Fin 12) :
    k0_pay10 a x2 x3 x4 (ix3 z r o) = lin (featRow a x2 r) (cols x3 12 (by omega)) (cobs x4 12 (by omega)) o :=
  box0_eq a x2 x3 x4 z r o

/-- Level 2: the body's nine products are the taps over the rows it has read. -/
theorem acc2_eq (v : Vec Ideal S1x1360x256 .bf16) (x1 : Vec Ideal S3x3x256x512 .bf16) (Z : ℕ → ℕ → Fin 256 → EReal)
    (hv : ∀ (n : Fin 1360) (ch : Fin 256), v (ix3 0 n ch) = Z (n.1 / 40) (n.1 % 40) ch) (r : Fin 1024) (k : Fin 512) :
    acc2 v x1 (ix2 r k) = taps Z (fun dy dx ch => x1 (ix4 dy dx ch k)) (r.1 / 32) (r.1 % 32) := by
  pointwise [acc2, wtap, k0_pay43, k0_pay38, k0_pay39, k0_pay40, k0_pay41, k0_pay42]
  refine taps_of_block 40 (v := fun n ch => v (ix3 0 n ch)) hv (fun dy dx ch => x1 (ix4 dy dx ch k)) (r.1 / 32) (r.1 % 32)
    (by omega) _ _ _ _ _ _ _ _ _ ?_ ?_ ?_ ?_ ?_ ?_ ?_ ?_ ?_ <;> first | rfl | (dsimp only; omega)

/-- Level 2: the class columns. -/
theorem logit2_eq (a : FVec Ideal S1024x512 .f32) (x2 : Vec Ideal S1x512 .f32) (x3 : Vec Ideal S512x24 .bf16) (x4 : Vec Ideal S1x24 .f32)
    (z : Fin 1) (r : Fin 1024) (o : Fin 6) :
    k0_pay13 a x2 x3 x4 (ix3 z r o) = lin (featRow a x2 r) (cols x3 0 (by omega)) (cobs x4 0 (by omega)) o :=
  logit0_eq a x2 x3 x4 z r o

/-- Level 2: the softmax of a class column and the column of its pair. -/
theorem prob2_eq (a : FVec Ideal S1024x512 .f32) (x2 : Vec Ideal S1x512 .f32) (x3 : Vec Ideal S512x24 .bf16) (x4 : Vec Ideal S1x24 .f32)
    (z : Fin 1) (r : Fin 1024) (o : Fin 6) :
    k0_pay14 a x2 x3 x4 (ix3 z r o) = pair (lin (featRow a x2 r) (cols x3 0 (by omega)) (cobs x4 0 (by omega)) o)
      (lin (featRow a x2 r) (cols x3 6 (by omega)) (cobs x4 6 (by omega)) o) :=
  prob0_eq a x2 x3 x4 z r o

/-- Level 2: the box columns. -/
theorem box2_eq (a : FVec Ideal S1024x512 .f32) (x2 : Vec Ideal S1x512 .f32) (x3 : Vec Ideal S512x24 .bf16) (x4 : Vec Ideal S1x24 .f32)
    (z : Fin 1) (r : Fin 1024) (o : Fin 12) :
    k0_pay15 a x2 x3 x4 (ix3 z r o) = lin (featRow a x2 r) (cols x3 12 (by omega)) (cobs x4 12 (by omega)) o :=
  box0_eq a x2 x3 x4 z r o

/-- Level 3: the body's nine products are the taps over the rows it has read. -/
theorem acc3_eq (v : Vec Ideal S1x432x256 .bf16) (x1 : Vec Ideal S3x3x256x512 .bf16) (Z : ℕ → ℕ → Fin 256 → EReal)
    (hv : ∀ (n : Fin 432) (ch : Fin 256), v (ix3 0 n ch) = Z (n.1 / 24) (n.1 % 24) ch) (r : Fin 256) (k : Fin 512) :
    acc3 v x1 (ix2 r k) = taps Z (fun dy dx ch => x1 (ix4 dy dx ch k)) (r.1 / 16) (r.1 % 16) := by
  pointwise [acc3, wtap, k0_pay49, k0_pay44, k0_pay45, k0_pay46, k0_pay47, k0_pay48]
  refine taps_of_block 24 (v := fun n ch => v (ix3 0 n ch)) hv (fun dy dx ch => x1 (ix4 dy dx ch k)) (r.1 / 16) (r.1 % 16)
    (by omega) _ _ _ _ _ _ _ _ _ ?_ ?_ ?_ ?_ ?_ ?_ ?_ ?_ ?_ <;> first | rfl | (dsimp only; omega)

/-- Level 3: the class columns. -/
theorem logit3_eq (a : FVec Ideal S256x512 .f32) (x2 : Vec Ideal S1x512 .f32) (x3 : Vec Ideal S512x24 .bf16) (x4 : Vec Ideal S1x24 .f32)
    (z : Fin 1) (r : Fin 256) (o : Fin 6) :
    k0_pay18 a x2 x3 x4 (ix3 z r o) = lin (featRow a x2 r) (cols x3 0 (by omega)) (cobs x4 0 (by omega)) o := by
  pointwise [k0_pay18, k0_pay17, k0_pay16]
  simp only [lin, featRow, cols, cobs, Nat.zero_add]

/-- Level 3: the softmax of a class column and the column of its pair. -/
theorem prob3_eq (a : FVec Ideal S256x512 .f32) (x2 : Vec Ideal S1x512 .f32) (x3 : Vec Ideal S512x24 .bf16) (x4 : Vec Ideal S1x24 .f32)
    (z : Fin 1) (r : Fin 256) (o : Fin 6) :
    k0_pay19 a x2 x3 x4 (ix3 z r o) = pair (lin (featRow a x2 r) (cols x3 0 (by omega)) (cobs x4 0 (by omega)) o)
      (lin (featRow a x2 r) (cols x3 6 (by omega)) (cobs x4 6 (by omega)) o) := by
  pointwise [k0_pay19, k0_pay17, k0_pay16]
  simp only [pair, lin, featRow, cols, cobs, Nat.zero_add]

/-- Level 3: the box columns. -/
theorem box3_eq (a : FVec Ideal S256x512 .f32) (x2 : Vec Ideal S1x512 .f32) (x3 : Vec Ideal S512x24 .bf16) (x4 : Vec Ideal S1x24 .f32)
    (z : Fin 1) (r : Fin 256) (o : Fin 12) :
    k0_pay20 a x2 x3 x4 (ix3 z r o) = lin (featRow a x2 r) (cols x3 12 (by omega)) (cobs x4 12 (by omega)) o := by
  pointwise [k0_pay20, k0_pay17, k0_pay16]
  simp only [lin, featRow, cols, cobs]

/-- Level 4: the body's nine products are the taps over the rows it has read. -/
theorem acc4_eq (v : Vec Ideal S1x160x256 .bf16) (x1 : Vec Ideal S3x3x256x512 .bf16) (Z : ℕ → ℕ → Fin 256 → EReal)
    (hv : ∀ (n : Fin 160) (ch : Fin 256), v (ix3 0 n ch) = Z (n.1 / 16) (n.1 % 16) ch) (r : Fin 64) (k : Fin 512) :
    acc4 v x1 (ix2 r k) = taps Z (fun dy dx ch => x1 (ix4 dy dx ch k)) (r.1 / 8) (r.1 % 8) := by
  pointwise [acc4, wtap, k0_pay55, k0_pay50, k0_pay51, k0_pay52, k0_pay53, k0_pay54]
  refine taps_of_block 16 (v := fun n ch => v (ix3 0 n ch)) hv (fun dy dx ch => x1 (ix4 dy dx ch k)) (r.1 / 8) (r.1 % 8)
    (by omega) _ _ _ _ _ _ _ _ _ ?_ ?_ ?_ ?_ ?_ ?_ ?_ ?_ ?_ <;> first | rfl | (dsimp only; omega)

/-- Level 4: the class columns. -/
theorem logit4_eq (a : FVec Ideal S64x512 .f32) (x2 : Vec Ideal S1x512 .f32) (x3 : Vec Ideal S512x24 .bf16) (x4 : Vec Ideal S1x24 .f32)
    (z : Fin 1) (r : Fin 64) (o : Fin 6) :
    k0_pay23 a x2 x3 x4 (ix3 z r o) = lin (featRow a x2 r) (cols x3 0 (by omega)) (cobs x4 0 (by omega)) o := by
  pointwise [k0_pay23, k0_pay22, k0_pay21]
  simp only [lin, featRow, cols, cobs, Nat.zero_add]

/-- Level 4: the softmax of a class column and the column of its pair. -/
theorem prob4_eq (a : FVec Ideal S64x512 .f32) (x2 : Vec Ideal S1x512 .f32) (x3 : Vec Ideal S512x24 .bf16) (x4 : Vec Ideal S1x24 .f32)
    (z : Fin 1) (r : Fin 64) (o : Fin 6) :
    k0_pay24 a x2 x3 x4 (ix3 z r o) = pair (lin (featRow a x2 r) (cols x3 0 (by omega)) (cobs x4 0 (by omega)) o)
      (lin (featRow a x2 r) (cols x3 6 (by omega)) (cobs x4 6 (by omega)) o) := by
  pointwise [k0_pay24, k0_pay22, k0_pay21]
  simp only [pair, lin, featRow, cols, cobs, Nat.zero_add]

/-- Level 4: the box columns. -/
theorem box4_eq (a : FVec Ideal S64x512 .f32) (x2 : Vec Ideal S1x512 .f32) (x3 : Vec Ideal S512x24 .bf16) (x4 : Vec Ideal S1x24 .f32)
    (z : Fin 1) (r : Fin 64) (o : Fin 12) :
    k0_pay25 a x2 x3 x4 (ix3 z r o) = lin (featRow a x2 r) (cols x3 12 (by omega)) (cobs x4 12 (by omega)) o := by
  pointwise [k0_pay25, k0_pay22, k0_pay21]
  simp only [lin, featRow, cols, cobs]

end Cert.KernelIdeal.Hand
-- ==== Proof.Math.Point.lean ====
module

public import proofs.«01_k».proof.Proof.Body.Data
public import proofs.«01_k».proof.Proof.Math.Entry
public import proofs.«01_k».proof.Proof.Math.Block
public import Idealize.ShloMosaic.Lib.Pipeline.ValueKit

@[expose] public section

set_option maxRecDepth 16384

noncomputable section

/-! What the three blocks of a level hold at one grid point, in the terms of the arguments: point `t` is row block
`t % 23` of image `t / 23`. -/

namespace Cert.KernelIdeal.Hand

open Cert.KernelIdeal Cert.KernelIdeal.Gen Cert.Heads
open Idealize.ShloMosaic Idealize.ShloMosaic.TcCoe

variable (m : (ℓ : Loc nD τ sig) → Buf (Elt Ideal) ℓ)

/-- The block of input 0 at a point. -/
theorem idx_0 : ∀ t : Fin cfg0.N, win0_0.index t = ![t.val / 23, 0, 0] := (by decide +kernel : ∀ t : Fin grid0.N, _)
/-- The block of input 1 at a point. -/
theorem idx_1 : ∀ t : Fin cfg0.N, win0_1.index t = ![0, 0, 0, 0] := (by decide +kernel : ∀ t : Fin grid0.N, _)
/-- The block of input 2 at a point. -/
theorem idx_2 : ∀ t : Fin cfg0.N, win0_2.index t = ![0, 0] := (by decide +kernel : ∀ t : Fin grid0.N, _)
/-- The block of input 3 at a point. -/
theorem idx_3 : ∀ t : Fin cfg0.N, win0_3.index t = ![0, 0] := (by decide +kernel : ∀ t : Fin grid0.N, _)
/-- The block of input 4 at a point. -/
theorem idx_4 : ∀ t : Fin cfg0.N, win0_4.index t = ![0, 0] := (by decide +kernel : ∀ t : Fin grid0.N, _)

/-- The image a point works on. -/
def image (t : Fin cfg0.N) : Fin 2 := ⟨t.val / 23, Nat.div_lt_of_lt_mul t.isLt⟩

/-- Two reads of an array of rank three at the same coordinates. -/
theorem read3 {α : Type} {n₀ n₁ n₂ : ℕ} (f : (⟨3, ![n₀, n₁, n₂]⟩ : Shape).Idx → α) {a a' : Fin n₀} {b b' : Fin n₁} {c c' : Fin n₂}
    (ha : a.1 = a'.1) (hb : b.1 = b'.1) (hc : c.1 = c'.1) : f (ix3 a b c) = f (ix3 a' b' c') := by
  rw [Fin.ext ha, Fin.ext hb, Fin.ext hc]

/-! The five input blocks of a point. -/

/-- The rows of a point's image. -/
theorem blk_rows (c : Dev nD) (t : Fin cfg0.N) (n : Fin 24384) (ch : Fin 256) :
    iblk m c 0 t (ix3 0 n ch) = V m c main_v37 (ix3 (image t) n ch) := by
  blk_simp [iblk, image]
  blk_ext [idx_0 t]

/-- The shared kernel, whole at every point. -/
theorem blk_wsh (c : Dev nD) (t : Fin cfg0.N) (dy dx : Fin 3) (ch : Fin 256) (k : Fin 512) :
    iblk m c 1 t (ix4 dy dx ch k) = (m ((c : Thread nD τ).loc main_arg5) : FVec Ideal S3x3x256x512 .f32) (ix4 dy dx ch k) := by
  have h : iblk m c 1 t (ix4 dy dx ch k) = V m c main_v0 (ix4 dy dx ch k) := by
    blk_simp [iblk]
    blk_ext [idx_1 t]
  rw [h, V_wsh]
  rfl

/-- The shared bias, whole at every point. -/
theorem blk_bsh (c : Dev nD) (t : Fin cfg0.N) (k : Fin 512) :
    iblk m c 2 t (ix2 0 k) = (m ((c : Thread nD τ).loc main_arg6) : FVec Ideal S512 .f32) (ix1 k) := by
  have h : iblk m c 2 t (ix2 0 k) = V m c main_v1 (ix2 0 k) := by
    blk_simp [iblk]
    blk_ext [idx_2 t]
  rw [h, V_bsh]
  pointwise

/-- The head's matrix, whole at every point. -/
theorem blk_whead (c : Dev nD) (t : Fin cfg0.N) (k : Fin 512) (o : Fin 24) :
    iblk m c 3 t (ix2 k o) = whead (m ((c : Thread nD τ).loc main_arg7)) (m ((c : Thread nD τ).loc main_arg9)) (ix2 k o) := by
  rw [← V_whead]
  blk_simp [iblk]
  blk_ext [idx_3 t]

/-- The head's bias, whole at every point. -/
theorem blk_bhead (c : Dev nD) (t : Fin cfg0.N) (o : Fin 24) :
    iblk m c 4 t (ix2 0 o) = bhead (m ((c : Thread nD τ).loc main_arg8)) (m ((c : Thread nD τ).loc main_arg10)) (ix2 0 o) := by
  rw [← V_bhead]
  blk_simp [iblk]
  blk_ext [idx_4 t]

/-! The head's three groups of columns. -/

/-- The first group gives the class scores. -/
theorem lin_class (c : Dev nD) (t : Fin cfg0.N) (f : Fin 512 → EReal) (o : Fin 6) :
    lin f (cols (iblk m c 3 t) 0 (by omega)) (cobs (iblk m c 4 t) 0 (by omega)) o
      = lin f (fun k o => (m ((c : Thread nD τ).loc main_arg7) : FVec Ideal S1x1x512x6 .f32) (ix4 0 0 k o))
          (fun o => (m ((c : Thread nD τ).loc main_arg8) : FVec Ideal S6 .f32) (ix1 o)) o := by
  simp only [lin, cols, cobs, blk_whead, blk_bhead, whead_class, bhead_class]

/-- The second group gives the score of each class's pair. -/
theorem lin_pair (c : Dev nD) (t : Fin cfg0.N) (f : Fin 512 → EReal) (o : Fin 6) :
    lin f (cols (iblk m c 3 t) 6 (by omega)) (cobs (iblk m c 4 t) 6 (by omega)) o
      = lin f (fun k o => (m ((c : Thread nD τ).loc main_arg7) : FVec Ideal S1x1x512x6 .f32) (ix4 0 0 k o))
          (fun o => (m ((c : Thread nD τ).loc main_arg8) : FVec Ideal S6 .f32) (ix1 o)) (other o) := by
  simp only [lin, cols, cobs, blk_whead, blk_bhead, whead_pair, bhead_pair]

/-- The third group gives the boxes. -/
theorem lin_box (c : Dev nD) (t : Fin cfg0.N) (f : Fin 512 → EReal) (o : Fin 12) :
    lin f (cols (iblk m c 3 t) 12 (by omega)) (cobs (iblk m c 4 t) 12 (by omega)) o
      = lin f (fun k o => (m ((c : Thread nD τ).loc main_arg9) : FVec Ideal S1x1x512x12 .f32) (ix4 0 0 k o))
          (fun o => (m ((c : Thread nD τ).loc main_arg10) : FVec Ideal S12 .f32) (ix1 o)) o := by
  simp only [lin, cols, cobs, blk_whead, blk_bhead, whead_box, bhead_box]

/-- A level's class scores, from a memory. -/
abbrev logitM {H W : ℕ} (X : (⟨4, ![2, H, W, 256]⟩ : Shape).Idx → EReal) (c : Dev nD) : Fin 2 → ℕ → Fin 6 → EReal :=
  linAt X (m ((c : Thread nD τ).loc main_arg5)) (m ((c : Thread nD τ).loc main_arg6)) (c := 6) (m ((c : Thread nD τ).loc main_arg7)) (m ((c : Thread nD τ).loc main_arg8))

/-- A level's class probabilities, from a memory. -/
abbrev probM {H W : ℕ} (X : (⟨4, ![2, H, W, 256]⟩ : Shape).Idx → EReal) (c : Dev nD) : Fin 2 → ℕ → Fin 6 → EReal :=
  probAt X (m ((c : Thread nD τ).loc main_arg5)) (m ((c : Thread nD τ).loc main_arg6)) (m ((c : Thread nD τ).loc main_arg7)) (m ((c : Thread nD τ).loc main_arg8))

/-- A level's boxes, from a memory. -/
abbrev boxM {H W : ℕ} (X : (⟨4, ![2, H, W, 256]⟩ : Shape).Idx → EReal) (c : Dev nD) : Fin 2 → ℕ → Fin 12 → EReal :=
  linAt X (m ((c : Thread nD τ).loc main_arg5)) (m ((c : Thread nD τ).loc main_arg6)) (c := 12) (m ((c : Thread nD τ).loc main_arg9)) (m ((c : Thread nD τ).loc main_arg10))

/-- Rows of the stacked maps are lines of a level's bordered map: the level starts at row `base`, its lines are `Wp` long,
    and the rows are counted from its line `k * d` on. -/
theorem read_level (c : Dev nD) (t : Fin cfg0.N) {H W N : ℕ} (X : (⟨4, ![2, H, W, 256]⟩ : Shape).Idx → EReal) (base Wp d k S : ℕ)
    (hX : ∀ (b : Fin 2) (n : Fin N) (ch : Fin 256) (h : base + n.1 < 24384),
      V m c main_v37 (ix3 b ⟨base + n.1, h⟩ ch) = framed (fun y x ch => X (ix4 b y x ch)) (n.1 / Wp) (n.1 % Wp) ch)
    (hS : S = d * Wp) (hW : 0 < Wp) (n : ℕ) (hn : k * S + n < N) (hb : base + N ≤ 24384) {a : Fin 1} {p : Fin 24384} {e : Fin 256}
    (ch : Fin 256) (hp : p.1 = base + k * S + n) (he : e.1 = ch.1) :
    iblk m c 0 t (ix3 a p e) = framed (fun y x ch => X (ix4 (image t) y x ch)) (k * d + n / Wp) (n % Wp) ch := by
  rw [read3 (iblk m c 0 t) (a' := 0) (b' := ⟨base + (k * S + n), by omega⟩) (c' := ch) (by omega) (hp.trans (Nat.add_assoc _ _ _)) he,
    blk_rows, hX (image t) ⟨k * S + n, hn⟩ ch]
  dsimp only
  rw [hS, ← Nat.mul_assoc, Nat.mul_comm (k * d), Nat.mul_add_div hW, Nat.mul_add_mod]

/-- The features of a level's rows, when the rows' convolution sums are the taps of its bordered map from line `k * d` on. -/
theorem feat_of (c : Dev nD) (t : Fin cfg0.N) {H W R : ℕ} (X : (⟨4, ![2, H, W, 256]⟩ : Shape).Idx → EReal) (d k S : ℕ)
    (hS : S = d * W) (hW : 0 < W) (u : (⟨2, ![R, 512]⟩ : Shape).Idx → EReal)
    (hu : ∀ (r : Fin R) (o : Fin 512), u (ix2 r o) = taps (fun p q ch => framed (fun y x ch => X (ix4 (image t) y x ch)) (k * d + p) q ch)
      (fun dy dx ch => iblk m c 1 t (ix4 dy dx ch o)) (r.1 / W) (r.1 % W)) (r : Fin R) :
    featRow u (iblk m c 2 t) r
      = featAt X (m ((c : Thread nD τ).loc main_arg5)) (m ((c : Thread nD τ).loc main_arg6)) (image t) (k * S + r.1) := by
  funext o
  have hq : (k * S + r.1) / W = k * d + r.1 / W := by
    rw [hS, ← Nat.mul_assoc, Nat.mul_comm (k * d), Nat.mul_add_div hW]
  have hm : (k * S + r.1) % W = r.1 % W := by
    rw [hS, ← Nat.mul_assoc, Nat.mul_comm (k * d), Nat.mul_add_mod]
  simp only [featRow, featAt, feat, hu, blk_bsh, hq, hm]
  rw [← taps_shift]
  simp only [blk_wsh]

/-! Level 0. -/

/-- The row from which a point of level 0 reads. -/
theorem off0 : ∀ t : Fin cfg0.N, (0 ≤ t.val % 23 ∧ t.val % 23 ≤ 15) →
    k0_off1 (grid0.coords t) = ![0, 0 + (t.val % 23 - 0) * 1088, 0] := (by decide +kernel : ∀ t : Fin grid0.N, _)

/-- What a point of level 0 reads: lines of the level's bordered map. -/
theorem win0_eq (c : Dev nD) (t : Pt0) (n : Fin 1360) (ch : Fin 256) :
    win0 (grid0.coords t.1) t.2 (iblk m c 0 t.1) (ix3 0 n ch)
      = framed (fun y x ch => (m ((c : Thread nD τ).loc main_arg0) : FVec Ideal S2x128x128x256 .f32) (ix4 (image t.1) y x ch))
          ((t.1.val % 23 - 0) * 8 + n.1 / 136) (n.1 % 136) ch := by
  have ht := (cond0 _).1 t.2
  have ho := off0 t.1 ht
  pointwise [win0]
  exact read_level m c t.1 _ 0 136 8 (t.1.val % 23 - 0) 1088 (level0 m c) rfl (by omega) n.1 (by omega) (by omega) ch
    (congrArg (· + n.1) (congrFun ho 1)) ((congrArg (· + ch.1) (congrFun ho 2)).trans (Nat.zero_add _))

/-- The features that a point of level 0 computes are the level's. -/
theorem feat0_eq (c : Dev nD) (t : Pt0) (r : Fin 1024) :
    featRow (conv0 m c t) (iblk m c 2 t.1) r
      = featAt (m ((c : Thread nD τ).loc main_arg0) : FVec Ideal S2x128x128x256 .f32) (m ((c : Thread nD τ).loc main_arg5)) (m ((c : Thread nD τ).loc main_arg6))
          (image t.1) ((t.1.val % 23 - 0) * 1024 + r.1) :=
  feat_of m c t.1 _ 8 (t.1.val % 23 - 0) 1024 rfl (by omega) _ (acc0_eq _ _ (fun p q ch => framed (fun y x ch => (m ((c : Thread nD τ).loc main_arg0) : FVec Ideal S2x128x128x256 .f32) (ix4 (image t.1) y x ch))
    ((t.1.val % 23 - 0) * 8 + p) q ch) (win0_eq m c t)) r

/-- The class scores that a point of level 0 computes are the level's. -/
theorem logits0_eq (c : Dev nD) (t : Pt0) (z : Fin 1) (r : Fin 1024) (o : Fin 6) :
    logits0 m c t (ix3 z r o)
      = logitM m (m ((c : Thread nD τ).loc main_arg0) : FVec Ideal S2x128x128x256 .f32) c (image t.1) ((t.1.val % 23 - 0) * 1024 + r.1) o := by
  rw [logits0, logit0_eq, feat0_eq, lin_class]
  rfl

/-- The class probabilities that a point of level 0 computes are the level's. -/
theorem probs0_eq (c : Dev nD) (t : Pt0) (z : Fin 1) (r : Fin 1024) (o : Fin 6) :
    probs0 m c t (ix3 z r o)
      = probM m (m ((c : Thread nD τ).loc main_arg0) : FVec Ideal S2x128x128x256 .f32) c (image t.1) ((t.1.val % 23 - 0) * 1024 + r.1) o := by
  rw [probs0, prob0_eq, feat0_eq, lin_class, lin_pair]
  rfl

/-- The boxes that a point of level 0 computes are the level's. -/
theorem boxes0_eq (c : Dev nD) (t : Pt0) (z : Fin 1) (r : Fin 1024) (o : Fin 12) :
    boxes0 m c t (ix3 z r o)
      = boxM m (m ((c : Thread nD τ).loc main_arg0) : FVec Ideal S2x128x128x256 .f32) c (image t.1) ((t.1.val % 23 - 0) * 1024 + r.1) o := by
  rw [boxes0, box0_eq, feat0_eq, lin_box]
  rfl

/-! Level 1. -/

/-- The row from which a point of level 1 reads. -/
theorem off1 : ∀ t : Fin cfg0.N, (16 ≤ t.val % 23 ∧ t.val % 23 ≤ 19) →
    k0_off2 (grid0.coords t) = ![0, 17680 + (t.val % 23 - 16) * 1152, 0] := (by decide +kernel : ∀ t : Fin grid0.N, _)

/-- What a point of level 1 reads: lines of the level's bordered map. -/
theorem win1_eq (c : Dev nD) (t : Pt1) (n : Fin 1296) (ch : Fin 256) :
    win1 (grid0.coords t.1) t.2 (iblk m c 0 t.1) (ix3 0 n ch)
      = framed (fun y x ch => (m ((c : Thread nD τ).loc main_arg1) : FVec Ideal S2x64x64x256 .f32) (ix4 (image t.1) y x ch))
          ((t.1.val % 23 - 16) * 16 + n.1 / 72) (n.1 % 72) ch := by
  have ht := (cond1 _).1 t.2
  have ho := off1 t.1 ht
  pointwise [win1]
  exact read_level m c t.1 _ 17680 72 16 (t.1.val % 23 - 16) 1152 (level1 m c) rfl (by omega) n.1 (by omega) (by omega) ch
    (congrArg (· + n.1) (congrFun ho 1)) ((congrArg (· + ch.1) (congrFun ho 2)).trans (Nat.zero_add _))

/-- The features that a point of level 1 computes are the level's. -/
theorem feat1_eq (c : Dev nD) (t : Pt1) (r : Fin 1024) :
    featRow (conv1 m c t) (iblk m c 2 t.1) r
      = featAt (m ((c : Thread nD τ).loc main_arg1) : FVec Ideal S2x64x64x256 .f32) (m ((c : Thread nD τ).loc main_arg5)) (m ((c : Thread nD τ).loc main_arg6))
          (image t.1) ((t.1.val % 23 - 16) * 1024 + r.1) :=
  feat_of m c t.1 _ 16 (t.1.val % 23 - 16) 1024 rfl (by omega) _ (acc1_eq _ _ (fun p q ch => framed (fun y x ch => (m ((c : Thread nD τ).loc main_arg1) : FVec Ideal S2x64x64x256 .f32) (ix4 (image t.1) y x ch))
    ((t.1.val % 23 - 16) * 16 + p) q ch) (win1_eq m c t)) r

/-- The class scores that a point of level 1 computes are the level's. -/
theorem logits1_eq (c : Dev nD) (t : Pt1) (z : Fin 1) (r : Fin 1024) (o : Fin 6) :
    logits1 m c t (ix3 z r o)
      = logitM m (m ((c : Thread nD τ).loc main_arg1) : FVec Ideal S2x64x64x256 .f32) c (image t.1) ((t.1.val % 23 - 16) * 1024 + r.1) o := by
  rw [logits1, logit1_eq, feat1_eq, lin_class]
  rfl

/-- The class probabilities that a point of level 1 computes are the level's. -/
theorem probs1_eq (c : Dev nD) (t : Pt1) (z : Fin 1) (r : Fin 1024) (o : Fin 6) :
    probs1 m c t (ix3 z r o)
      = probM m (m ((c : Thread nD τ).loc main_arg1) : FVec Ideal S2x64x64x256 .f32) c (image t.1) ((t.1.val % 23 - 16) * 1024 + r.1) o := by
  rw [probs1, prob1_eq, feat1_eq, lin_class, lin_pair]
  rfl

/-- The boxes that a point of level 1 computes are the level's. -/
theorem boxes1_eq (c : Dev nD) (t : Pt1) (z : Fin 1) (r : Fin 1024) (o : Fin 12) :
    boxes1 m c t (ix3 z r o)
      = boxM m (m ((c : Thread nD τ).loc main_arg1) : FVec Ideal S2x64x64x256 .f32) c (image t.1) ((t.1.val % 23 - 16) * 1024 + r.1) o := by
  rw [boxes1, box1_eq, feat1_eq, lin_box]
  rfl

/-! Level 2. -/

/-- The row from which a point of level 2 reads. -/
theorem off2 : ∀ t : Fin cfg0.N, (20 ≤ t.val % 23 ∧ t.val % 23 ≤ 20) →
    k0_off3 (grid0.coords t) = ![0, 22432 + (t.val % 23 - 20) * 1280, 0] := (by decide +kernel : ∀ t : Fin grid0.N, _)

/-- What a point of level 2 reads: lines of the level's bordered map. -/
theorem win2_eq (c : Dev nD) (t : Pt2) (n : Fin 1360) (ch : Fin 256) :
    win2 (grid0.coords t.1) t.2 (iblk m c 0 t.1) (ix3 0 n ch)
      = framed (fun y x ch => (m ((c : Thread nD τ).loc main_arg2) : FVec Ideal S2x32x32x256 .f32) (ix4 (image t.1) y x ch))
          ((t.1.val % 23 - 20) * 32 + n.1 / 40) (n.1 % 40) ch := by
  have ht := (cond2 _).1 t.2
  have ho := off2 t.1 ht
  pointwise [win2]
  exact read_level m c t.1 _ 22432 40 32 (t.1.val % 23 - 20) 1280 (level2 m c) rfl (by omega) n.1 (by omega) (by omega) ch
    (congrArg (· + n.1) (congrFun ho 1)) ((congrArg (· + ch.1) (congrFun ho 2)).trans (Nat.zero_add _))

/-- The features that a point of level 2 computes are the level's. -/
theorem feat2_eq (c : Dev nD) (t : Pt2) (r : Fin 1024) :
    featRow (conv2 m c t) (iblk m c 2 t.1) r
      = featAt (m ((c : Thread nD τ).loc main_arg2) : FVec Ideal S2x32x32x256 .f32) (m ((c : Thread nD τ).loc main_arg5)) (m ((c : Thread nD τ).loc main_arg6))
          (image t.1) ((t.1.val % 23 - 20) * 1024 + r.1) :=
  feat_of m c t.1 _ 32 (t.1.val % 23 - 20) 1024 rfl (by omega) _ (acc2_eq _ _ (fun p q ch => framed (fun y x ch => (m ((c : Thread nD τ).loc main_arg2) : FVec Ideal S2x32x32x256 .f32) (ix4 (image t.1) y x ch))
    ((t.1.val % 23 - 20) * 32 + p) q ch) (win2_eq m c t)) r

/-- The class scores that a point of level 2 computes are the level's. -/
theorem logits2_eq (c : Dev nD) (t : Pt2) (z : Fin 1) (r : Fin 1024) (o : Fin 6) :
    logits2 m c t (ix3 z r o)
      = logitM m (m ((c : Thread nD τ).loc main_arg2) : FVec Ideal S2x32x32x256 .f32) c (image t.1) ((t.1.val % 23 - 20) * 1024 + r.1) o := by
  rw [logits2, logit2_eq, feat2_eq, lin_class]
  rfl

/-- The class probabilities that a point of level 2 computes are the level's. -/
theorem probs2_eq (c : Dev nD) (t : Pt2) (z : Fin 1) (r : Fin 1024) (o : Fin 6) :
    probs2 m c t (ix3 z r o)
      = probM m (m ((c : Thread nD τ).loc main_arg2) : FVec Ideal S2x32x32x256 .f32) c (image t.1) ((t.1.val % 23 - 20) * 1024 + r.1) o := by
  rw [probs2, prob2_eq, feat2_eq, lin_class, lin_pair]
  rfl

/-- The boxes that a point of level 2 computes are the level's. -/
theorem boxes2_eq (c : Dev nD) (t : Pt2) (z : Fin 1) (r : Fin 1024) (o : Fin 12) :
    boxes2 m c t (ix3 z r o)
      = boxM m (m ((c : Thread nD τ).loc main_arg2) : FVec Ideal S2x32x32x256 .f32) c (image t.1) ((t.1.val % 23 - 20) * 1024 + r.1) o := by
  rw [boxes2, box2_eq, feat2_eq, lin_box]
  rfl

/-! Level 3. -/

/-- The row from which a point of level 3 reads. -/
theorem off3 : ∀ t : Fin cfg0.N, (21 ≤ t.val % 23 ∧ t.val % 23 ≤ 21) →
    k0_off4 (grid0.coords t) = ![0, 23792 + (t.val % 23 - 21) * 384, 0] := (by decide +kernel : ∀ t : Fin grid0.N, _)

/-- What a point of level 3 reads: lines of the level's bordered map. -/
theorem win3_eq (c : Dev nD) (t : Pt3) (n : Fin 432) (ch : Fin 256) :
    win3 (grid0.coords t.1) t.2 (iblk m c 0 t.1) (ix3 0 n ch)
      = framed (fun y x ch => (m ((c : Thread nD τ).loc main_arg3) : FVec Ideal S2x16x16x256 .f32) (ix4 (image t.1) y x ch))
          ((t.1.val % 23 - 21) * 16 + n.1 / 24) (n.1 % 24) ch := by
  have ht := (cond3 _).1 t.2
  have ho := off3 t.1 ht
  pointwise [win3]
  exact read_level m c t.1 _ 23792 24 16 (t.1.val % 23 - 21) 384 (level3 m c) rfl (by omega) n.1 (by omega) (by omega) ch
    (congrArg (· + n.1) (congrFun ho 1)) ((congrArg (· + ch.1) (congrFun ho 2)).trans (Nat.zero_add _))

/-- The features that a point of level 3 computes are the level's. -/
theorem feat3_eq (c : Dev nD) (t : Pt3) (r : Fin 256) :
    featRow (conv3 m c t) (iblk m c 2 t.1) r
      = featAt (m ((c : Thread nD τ).loc main_arg3) : FVec Ideal S2x16x16x256 .f32) (m ((c : Thread nD τ).loc main_arg5)) (m ((c : Thread nD τ).loc main_arg6))
          (image t.1) ((t.1.val % 23 - 21) * 256 + r.1) :=
  feat_of m c t.1 _ 16 (t.1.val % 23 - 21) 256 rfl (by omega) _ (acc3_eq _ _ (fun p q ch => framed (fun y x ch => (m ((c : Thread nD τ).loc main_arg3) : FVec Ideal S2x16x16x256 .f32) (ix4 (image t.1) y x ch))
    ((t.1.val % 23 - 21) * 16 + p) q ch) (win3_eq m c t)) r

/-- The class scores that a point of level 3 computes are the level's. -/
theorem logits3_eq (c : Dev nD) (t : Pt3) (z : Fin 1) (r : Fin 256) (o : Fin 6) :
    logits3 m c t (ix3 z r o)
      = logitM m (m ((c : Thread nD τ).loc main_arg3) : FVec Ideal S2x16x16x256 .f32) c (image t.1) ((t.1.val % 23 - 21) * 256 + r.1) o := by
  rw [logits3, logit3_eq, feat3_eq, lin_class]
  rfl

/-- The class probabilities that a point of level 3 computes are the level's. -/
theorem probs3_eq (c : Dev nD) (t : Pt3) (z : Fin 1) (r : Fin 256) (o : Fin 6) :
    probs3 m c t (ix3 z r o)
      = probM m (m ((c : Thread nD τ).loc main_arg3) : FVec Ideal S2x16x16x256 .f32) c (image t.1) ((t.1.val % 23 - 21) * 256 + r.1) o := by
  rw [probs3, prob3_eq, feat3_eq, lin_class, lin_pair]
  rfl

/-- The boxes that a point of level 3 computes are the level's. -/
theorem boxes3_eq (c : Dev nD) (t : Pt3) (z : Fin 1) (r : Fin 256) (o : Fin 12) :
    boxes3 m c t (ix3 z r o)
      = boxM m (m ((c : Thread nD τ).loc main_arg3) : FVec Ideal S2x16x16x256 .f32) c (image t.1) ((t.1.val % 23 - 21) * 256 + r.1) o := by
  rw [boxes3, box3_eq, feat3_eq, lin_box]
  rfl

/-! Level 4. -/

/-- The row from which a point of level 4 reads. -/
theorem off4 : ∀ t : Fin cfg0.N, (22 ≤ t.val % 23 ∧ t.val % 23 ≤ 22) →
    k0_off5 (grid0.coords t) = ![0, 24224 + (t.val % 23 - 22) * 128, 0] := (by decide +kernel : ∀ t : Fin grid0.N, _)

/-- What a point of level 4 reads: lines of the level's bordered map. -/
theorem win4_eq (c : Dev nD) (t : Pt4) (n : Fin 160) (ch : Fin 256) :
    win4 (grid0.coords t.1) t.2 (iblk m c 0 t.1) (ix3 0 n ch)
      = framed (fun y x ch => (m ((c : Thread nD τ).loc main_arg4) : FVec Ideal S2x8x8x256 .f32) (ix4 (image t.1) y x ch))
          ((t.1.val % 23 - 22) * 8 + n.1 / 16) (n.1 % 16) ch := by
  have ht := (cond4 _).1 t.2
  have ho := off4 t.1 ht
  pointwise [win4]
  exact read_level m c t.1 _ 24224 16 8 (t.1.val % 23 - 22) 128 (level4 m c) rfl (by omega) n.1 (by omega) (by omega) ch
    (congrArg (· + n.1) (congrFun ho 1)) ((congrArg (· + ch.1) (congrFun ho 2)).trans (Nat.zero_add _))

/-- The features that a point of level 4 computes are the level's. -/
theorem feat4_eq (c : Dev nD) (t : Pt4) (r : Fin 64) :
    featRow (conv4 m c t) (iblk m c 2 t.1) r
      = featAt (m ((c : Thread nD τ).loc main_arg4) : FVec Ideal S2x8x8x256 .f32) (m ((c : Thread nD τ).loc main_arg5)) (m ((c : Thread nD τ).loc main_arg6))
          (image t.1) ((t.1.val % 23 - 22) * 64 + r.1) :=
  feat_of m c t.1 _ 8 (t.1.val % 23 - 22) 64 rfl (by omega) _ (acc4_eq _ _ (fun p q ch => framed (fun y x ch => (m ((c : Thread nD τ).loc main_arg4) : FVec Ideal S2x8x8x256 .f32) (ix4 (image t.1) y x ch))
    ((t.1.val % 23 - 22) * 8 + p) q ch) (win4_eq m c t)) r

/-- The class scores that a point of level 4 computes are the level's. -/
theorem logits4_eq (c : Dev nD) (t : Pt4) (z : Fin 1) (r : Fin 64) (o : Fin 6) :
    logits4 m c t (ix3 z r o)
      = logitM m (m ((c : Thread nD τ).loc main_arg4) : FVec Ideal S2x8x8x256 .f32) c (image t.1) ((t.1.val % 23 - 22) * 64 + r.1) o := by
  rw [logits4, logit4_eq, feat4_eq, lin_class]
  rfl

/-- The class probabilities that a point of level 4 computes are the level's. -/
theorem probs4_eq (c : Dev nD) (t : Pt4) (z : Fin 1) (r : Fin 64) (o : Fin 6) :
    probs4 m c t (ix3 z r o)
      = probM m (m ((c : Thread nD τ).loc main_arg4) : FVec Ideal S2x8x8x256 .f32) c (image t.1) ((t.1.val % 23 - 22) * 64 + r.1) o := by
  rw [probs4, prob4_eq, feat4_eq, lin_class, lin_pair]
  rfl

/-- The boxes that a point of level 4 computes are the level's. -/
theorem boxes4_eq (c : Dev nD) (t : Pt4) (z : Fin 1) (r : Fin 64) (o : Fin 12) :
    boxes4 m c t (ix3 z r o)
      = boxM m (m ((c : Thread nD τ).loc main_arg4) : FVec Ideal S2x8x8x256 .f32) c (image t.1) ((t.1.val % 23 - 22) * 64 + r.1) o := by
  rw [boxes4, box4_eq, feat4_eq, lin_box]
  rfl

end Cert.KernelIdeal.Hand
-- ==== Proof.Math.Arrays.lean ====
module

public import proofs.«01_k».proof.Proof.Math.Point
public import proofs.«01_k».proof.Proof.Body.Sound

@[expose] public section

set_option maxRecDepth 16384

noncomputable section

/-! What the fifteen output arrays hold after the last point: each block was last written back at the point that
computed it, or with the last point of its image. -/

namespace Cert.KernelIdeal.Hand

open Cert.KernelIdeal Cert.KernelIdeal.Gen Cert.Heads
open Idealize.ShloMosaic Idealize.ShloMosaic.TcCoe

variable (m : (ℓ : Loc nD τ sig) → Buf (Elt Ideal) ℓ)

/-- An array of one level, its positions counted row by row. -/
def table {n k : ℕ} (g : Fin 2 → ℕ → Fin k → EReal) : (⟨3, ![2, n, k]⟩ : Shape).Idx → EReal :=
  fun i => g (i 0) (i 1).1 (i 2)

/-- The nearest point lies in the same image. -/
theorem image_near (lo hi : ℕ) (h : hi < 23) (t : Fin cfg0.N) : image (near lo hi h t) = image t :=
  Fin.ext (by show (23 * (t.val / 23) + min (max (t.val % 23) lo) hi) / 23 = t.val / 23; omega)

/-- The row block of the nearest point. -/
theorem near_block (lo hi : ℕ) (h : hi < 23) (t : Fin cfg0.N) :
    (near lo hi h t).val % 23 = min (max (t.val % 23) lo) hi := by
  show (23 * (t.val / 23) + min (max (t.val % 23) lo) hi) % 23 = _
  omega

/-- A block's index by its three coordinates. -/
theorem ix3_of {n₀ n₁ n₂ : ℕ} (y : (⟨3, ![n₀, n₁, n₂]⟩ : Shape).Idx) :
    ∃ (a : Fin n₀) (b : Fin n₁) (d : Fin n₂), y = ix3 a b d :=
  ⟨y 0, y 1, y 2, by funext a; fin_cases a <;> rfl⟩

/-- The block that a level's windows are at: the image, then the row block inside the level. -/
abbrev place (lo hi : ℕ) (t : Fin cfg0.N) : Fin 3 → ℕ := ![t.val / 23, min (max (t.val % 23) lo) hi - lo, 0]

/-- A level's value at the nearest point, read off the level's array: row `r` of a block of `R` rows is that row of the array. -/
theorem at_table {n k : ℕ} (g : Fin 2 → ℕ → Fin k → EReal) (lo hi R : ℕ) (h : hi < 23) (t : Fin cfg0.N)
    (i : (⟨3, ![2, n, k]⟩ : Shape).Idx) (r : ℕ) (o : Fin k) (h₀ : (i 0).val = t.val / 23)
    (h₁ : (i 1).val = (min (max (t.val % 23) lo) hi - lo) * R + r) (h₂ : (i 2).val = o.val) :
    g (image (near lo hi h t)) (((near lo hi h t).val % 23 - lo) * R + r) o = table g i := by
  rw [image_near, near_block]
  unfold table
  rw [h₁, show i 0 = image t from Fin.ext h₀, show i 2 = o from Fin.ext h₂]

/-- The block of output 5 at a point: the image, then the row block inside level 0. -/
theorem idx_5 : ∀ t : Fin cfg0.N, win0_5.index t = place 0 15 t := (by decide +kernel : ∀ t : Fin grid0.N, _)

/-- After the last point, output 5 is the table of level 0's logits. -/
theorem final5 (c : Dev nD) : (dats m 0 c).arrAt 5 (cfgs 0).N
    = (table (logitM m (m ((c : Thread nD τ).loc main_arg0) : FVec Ideal S2x128x128x256 .f32) c) : FVec Ideal S2x16384x6 .f32) := by
  refine (dats m 0 c).arrAt_eq_of_covers 5 _ (by decide +kernel) fun t hf y => ?_
  rw [after0_5]
  obtain ⟨z, r, o, rfl⟩ := ix3_of (n₀ := 1) (n₁ := 1024) (n₂ := 6) y
  refine (logits0_eq m c (at0 t) z r o).trans ?_
  blk_simp [idx_5 t]
  exact at_table _ 0 15 1024 (by omega) t _ r o (by blk_simp [idx_5 t]) (by blk_simp [idx_5 t]) (by blk_simp [idx_5 t])

/-- The block of output 6 at a point: the image, then the row block inside level 0. -/
theorem idx_6 : ∀ t : Fin cfg0.N, win0_6.index t = place 0 15 t := (by decide +kernel : ∀ t : Fin grid0.N, _)

/-- After the last point, output 6 is the table of level 0's probabilities. -/
theorem final6 (c : Dev nD) : (dats m 0 c).arrAt 6 (cfgs 0).N
    = (table (probM m (m ((c : Thread nD τ).loc main_arg0) : FVec Ideal S2x128x128x256 .f32) c) : FVec Ideal S2x16384x6 .f32) := by
  refine (dats m 0 c).arrAt_eq_of_covers 6 _ (by decide +kernel) fun t hf y => ?_
  rw [after0_6]
  obtain ⟨z, r, o, rfl⟩ := ix3_of (n₀ := 1) (n₁ := 1024) (n₂ := 6) y
  refine (probs0_eq m c (at0 t) z r o).trans ?_
  blk_simp [idx_6 t]
  exact at_table _ 0 15 1024 (by omega) t _ r o (by blk_simp [idx_6 t]) (by blk_simp [idx_6 t]) (by blk_simp [idx_6 t])

/-- The block of output 7 at a point: the image, then the row block inside level 0. -/
theorem idx_7 : ∀ t : Fin cfg0.N, win0_7.index t = place 0 15 t := (by decide +kernel : ∀ t : Fin grid0.N, _)

/-- After the last point, output 7 is the table of level 0's boxes. -/
theorem final7 (c : Dev nD) : (dats m 0 c).arrAt 7 (cfgs 0).N
    = (table (boxM m (m ((c : Thread nD τ).loc main_arg0) : FVec Ideal S2x128x128x256 .f32) c) : FVec Ideal S2x16384x12 .f32) := by
  refine (dats m 0 c).arrAt_eq_of_covers 7 _ (by decide +kernel) fun t hf y => ?_
  rw [after0_7]
  obtain ⟨z, r, o, rfl⟩ := ix3_of (n₀ := 1) (n₁ := 1024) (n₂ := 12) y
  refine (boxes0_eq m c (at0 t) z r o).trans ?_
  blk_simp [idx_7 t]
  exact at_table _ 0 15 1024 (by omega) t _ r o (by blk_simp [idx_7 t]) (by blk_simp [idx_7 t]) (by blk_simp [idx_7 t])

/-- The block of output 8 at a point: the image, then the row block inside level 1. -/
theorem idx_8 : ∀ t : Fin cfg0.N, win0_8.index t = place 16 19 t := (by decide +kernel : ∀ t : Fin grid0.N, _)

/-- After the last point, output 8 is the table of level 1's logits. -/
theorem final8 (c : Dev nD) : (dats m 0 c).arrAt 8 (cfgs 0).N
    = (table (logitM m (m ((c : Thread nD τ).loc main_arg1) : FVec Ideal S2x64x64x256 .f32) c) : FVec Ideal S2x4096x6 .f32) := by
  refine (dats m 0 c).arrAt_eq_of_covers 8 _ (by decide +kernel) fun t hf y => ?_
  rw [after0_8]
  obtain ⟨z, r, o, rfl⟩ := ix3_of (n₀ := 1) (n₁ := 1024) (n₂ := 6) y
  refine (logits1_eq m c (at1 t) z r o).trans ?_
  blk_simp [idx_8 t]
  exact at_table _ 16 19 1024 (by omega) t _ r o (by blk_simp [idx_8 t]) (by blk_simp [idx_8 t]) (by blk_simp [idx_8 t])

/-- The block of output 9 at a point: the image, then the row block inside level 1. -/
theorem idx_9 : ∀ t : Fin cfg0.N, win0_9.index t = place 16 19 t := (by decide +kernel : ∀ t : Fin grid0.N, _)

/-- After the last point, output 9 is the table of level 1's probabilities. -/
theorem final9 (c : Dev nD) : (dats m 0 c).arrAt 9 (cfgs 0).N
    = (table (probM m (m ((c : Thread nD τ).loc main_arg1) : FVec Ideal S2x64x64x256 .f32) c) : FVec Ideal S2x4096x6 .f32) := by
  refine (dats m 0 c).arrAt_eq_of_covers 9 _ (by decide +kernel) fun t hf y => ?_
  rw [after0_9]
  obtain ⟨z, r, o, rfl⟩ := ix3_of (n₀ := 1) (n₁ := 1024) (n₂ := 6) y
  refine (probs1_eq m c (at1 t) z r o).trans ?_
  blk_simp [idx_9 t]
  exact at_table _ 16 19 1024 (by omega) t _ r o (by blk_simp [idx_9 t]) (by blk_simp [idx_9 t]) (by blk_simp [idx_9 t])

/-- The block of output 10 at a point: the image, then the row block inside level 1. -/
theorem idx_10 : ∀ t : Fin cfg0.N, win0_10.index t = place 16 19 t := (by decide +kernel : ∀ t : Fin grid0.N, _)

/-- After the last point, output 10 is the table of level 1's boxes. -/
theorem final10 (c : Dev nD) : (dats m 0 c).arrAt 10 (cfgs 0).N
    = (table (boxM m (m ((c : Thread nD τ).loc main_arg1) : FVec Ideal S2x64x64x256 .f32) c) : FVec Ideal S2x4096x12 .f32) := by
  refine (dats m 0 c).arrAt_eq_of_covers 10 _ (by decide +kernel) fun t hf y => ?_
  rw [after0_10]
  obtain ⟨z, r, o, rfl⟩ := ix3_of (n₀ := 1) (n₁ := 1024) (n₂ := 12) y
  refine (boxes1_eq m c (at1 t) z r o).trans ?_
  blk_simp [idx_10 t]
  exact at_table _ 16 19 1024 (by omega) t _ r o (by blk_simp [idx_10 t]) (by blk_simp [idx_10 t]) (by blk_simp [idx_10 t])

/-- The block of output 11 at a point: the image, then the row block inside level 2. -/
theorem idx_11 : ∀ t : Fin cfg0.N, win0_11.index t = place 20 20 t := (by decide +kernel : ∀ t : Fin grid0.N, _)

/-- After the last point, output 11 is the table of level 2's logits. -/
theorem final11 (c : Dev nD) : (dats m 0 c).arrAt 11 (cfgs 0).N
    = (table (logitM m (m ((c : Thread nD τ).loc main_arg2) : FVec Ideal S2x32x32x256 .f32) c) : FVec Ideal S2x1024x6 .f32) := by
  refine (dats m 0 c).arrAt_eq_of_covers 11 _ (by decide +kernel) fun t hf y => ?_
  rw [after0_11]
  obtain ⟨z, r, o, rfl⟩ := ix3_of (n₀ := 1) (n₁ := 1024) (n₂ := 6) y
  refine (logits2_eq m c (at2 t) z r o).trans ?_
  blk_simp [idx_11 t]
  exact at_table _ 20 20 1024 (by omega) t _ r o (by blk_simp [idx_11 t]) (by blk_simp [idx_11 t]) (by blk_simp [idx_11 t])

/-- The block of output 12 at a point: the image, then the row block inside level 2. -/
theorem idx_12 : ∀ t : Fin cfg0.N, win0_12.index t = place 20 20 t := (by decide +kernel : ∀ t : Fin grid0.N, _)

/-- After the last point, output 12 is the table of level 2's probabilities. -/
theorem final12 (c : Dev nD) : (dats m 0 c).arrAt 12 (cfgs 0).N
    = (table (probM m (m ((c : Thread nD τ).loc main_arg2) : FVec Ideal S2x32x32x256 .f32) c) : FVec Ideal S2x1024x6 .f32) := by
  refine (dats m 0 c).arrAt_eq_of_covers 12 _ (by decide +kernel) fun t hf y => ?_
  rw [after0_12]
  obtain ⟨z, r, o, rfl⟩ := ix3_of (n₀ := 1) (n₁ := 1024) (n₂ := 6) y
  refine (probs2_eq m c (at2 t) z r o).trans ?_
  blk_simp [idx_12 t]
  exact at_table _ 20 20 1024 (by omega) t _ r o (by blk_simp [idx_12 t]) (by blk_simp [idx_12 t]) (by blk_simp [idx_12 t])

/-- The block of output 13 at a point: the image, then the row block inside level 2. -/
theorem idx_13 : ∀ t : Fin cfg0.N, win0_13.index t = place 20 20 t := (by decide +kernel : ∀ t : Fin grid0.N, _)

/-- After the last point, output 13 is the table of level 2's boxes. -/
theorem final13 (c : Dev nD) : (dats m 0 c).arrAt 13 (cfgs 0).N
    = (table (boxM m (m ((c : Thread nD τ).loc main_arg2) : FVec Ideal S2x32x32x256 .f32) c) : FVec Ideal S2x1024x12 .f32) := by
  refine (dats m 0 c).arrAt_eq_of_covers 13 _ (by decide +kernel) fun t hf y => ?_
  rw [after0_13]
  obtain ⟨z, r, o, rfl⟩ := ix3_of (n₀ := 1) (n₁ := 1024) (n₂ := 12) y
  refine (boxes2_eq m c (at2 t) z r o).trans ?_
  blk_simp [idx_13 t]
  exact at_table _ 20 20 1024 (by omega) t _ r o (by blk_simp [idx_13 t]) (by blk_simp [idx_13 t]) (by blk_simp [idx_13 t])

/-- The block of output 14 at a point: the image, then the row block inside level 3. -/
theorem idx_14 : ∀ t : Fin cfg0.N, win0_14.index t = place 21 21 t := (by decide +kernel : ∀ t : Fin grid0.N, _)

/-- After the last point, output 14 is the table of level 3's logits. -/
theorem final14 (c : Dev nD) : (dats m 0 c).arrAt 14 (cfgs 0).N
    = (table (logitM m (m ((c : Thread nD τ).loc main_arg3) : FVec Ideal S2x16x16x256 .f32) c) : FVec Ideal S2x256x6 .f32) := by
  refine (dats m 0 c).arrAt_eq_of_covers 14 _ (by decide +kernel) fun t hf y => ?_
  rw [after0_14]
  obtain ⟨z, r, o, rfl⟩ := ix3_of (n₀ := 1) (n₁ := 256) (n₂ := 6) y
  refine (logits3_eq m c (at3 t) z r o).trans ?_
  blk_simp [idx_14 t]
  exact at_table _ 21 21 256 (by omega) t _ r o (by blk_simp [idx_14 t]) (by blk_simp [idx_14 t]) (by blk_simp [idx_14 t])

/-- The block of output 15 at a point: the image, then the row block inside level 3. -/
theorem idx_15 : ∀ t : Fin cfg0.N, win0_15.index t = place 21 21 t := (by decide +kernel : ∀ t : Fin grid0.N, _)

/-- After the last point, output 15 is the table of level 3's probabilities. -/
theorem final15 (c : Dev nD) : (dats m 0 c).arrAt 15 (cfgs 0).N
    = (table (probM m (m ((c : Thread nD τ).loc main_arg3) : FVec Ideal S2x16x16x256 .f32) c) : FVec Ideal S2x256x6 .f32) := by
  refine (dats m 0 c).arrAt_eq_of_covers 15 _ (by decide +kernel) fun t hf y => ?_
  rw [after0_15]
  obtain ⟨z, r, o, rfl⟩ := ix3_of (n₀ := 1) (n₁ := 256) (n₂ := 6) y
  refine (probs3_eq m c (at3 t) z r o).trans ?_
  blk_simp [idx_15 t]
  exact at_table _ 21 21 256 (by omega) t _ r o (by blk_simp [idx_15 t]) (by blk_simp [idx_15 t]) (by blk_simp [idx_15 t])

/-- The block of output 16 at a point: the image, then the row block inside level 3. -/
theorem idx_16 : ∀ t : Fin cfg0.N, win0_16.index t = place 21 21 t := (by decide +kernel : ∀ t : Fin grid0.N, _)

/-- After the last point, output 16 is the table of level 3's boxes. -/
theorem final16 (c : Dev nD) : (dats m 0 c).arrAt 16 (cfgs 0).N
    = (table (boxM m (m ((c : Thread nD τ).loc main_arg3) : FVec Ideal S2x16x16x256 .f32) c) : FVec Ideal S2x256x12 .f32) := by
  refine (dats m 0 c).arrAt_eq_of_covers 16 _ (by decide +kernel) fun t hf y => ?_
  rw [after0_16]
  obtain ⟨z, r, o, rfl⟩ := ix3_of (n₀ := 1) (n₁ := 256) (n₂ := 12) y
  refine (boxes3_eq m c (at3 t) z r o).trans ?_
  blk_simp [idx_16 t]
  exact at_table _ 21 21 256 (by omega) t _ r o (by blk_simp [idx_16 t]) (by blk_simp [idx_16 t]) (by blk_simp [idx_16 t])

/-- The block of output 17 at a point: the image, then the row block inside level 4. -/
theorem idx_17 : ∀ t : Fin cfg0.N, win0_17.index t = place 22 22 t := (by decide +kernel : ∀ t : Fin grid0.N, _)

/-- After the last point, output 17 is the table of level 4's logits. -/
theorem final17 (c : Dev nD) : (dats m 0 c).arrAt 17 (cfgs 0).N
    = (table (logitM m (m ((c : Thread nD τ).loc main_arg4) : FVec Ideal S2x8x8x256 .f32) c) : FVec Ideal S2x64x6 .f32) := by
  refine (dats m 0 c).arrAt_eq_of_covers 17 _ (by decide +kernel) fun t hf y => ?_
  rw [after0_17]
  obtain ⟨z, r, o, rfl⟩ := ix3_of (n₀ := 1) (n₁ := 64) (n₂ := 6) y
  refine (logits4_eq m c (at4 t) z r o).trans ?_
  blk_simp [idx_17 t]
  exact at_table _ 22 22 64 (by omega) t _ r o (by blk_simp [idx_17 t]) (by blk_simp [idx_17 t]) (by blk_simp [idx_17 t])

/-- The block of output 18 at a point: the image, then the row block inside level 4. -/
theorem idx_18 : ∀ t : Fin cfg0.N, win0_18.index t = place 22 22 t := (by decide +kernel : ∀ t : Fin grid0.N, _)

/-- After the last point, output 18 is the table of level 4's probabilities. -/
theorem final18 (c : Dev nD) : (dats m 0 c).arrAt 18 (cfgs 0).N
    = (table (probM m (m ((c : Thread nD τ).loc main_arg4) : FVec Ideal S2x8x8x256 .f32) c) : FVec Ideal S2x64x6 .f32) := by
  refine (dats m 0 c).arrAt_eq_of_covers 18 _ (by decide +kernel) fun t hf y => ?_
  rw [after0_18]
  obtain ⟨z, r, o, rfl⟩ := ix3_of (n₀ := 1) (n₁ := 64) (n₂ := 6) y
  refine (probs4_eq m c (at4 t) z r o).trans ?_
  blk_simp [idx_18 t]
  exact at_table _ 22 22 64 (by omega) t _ r o (by blk_simp [idx_18 t]) (by blk_simp [idx_18 t]) (by blk_simp [idx_18 t])

/-- The block of output 19 at a point: the image, then the row block inside level 4. -/
theorem idx_19 : ∀ t : Fin cfg0.N, win0_19.index t = place 22 22 t := (by decide +kernel : ∀ t : Fin grid0.N, _)

/-- After the last point, output 19 is the table of level 4's boxes. -/
theorem final19 (c : Dev nD) : (dats m 0 c).arrAt 19 (cfgs 0).N
    = (table (boxM m (m ((c : Thread nD τ).loc main_arg4) : FVec Ideal S2x8x8x256 .f32) c) : FVec Ideal S2x64x12 .f32) := by
  refine (dats m 0 c).arrAt_eq_of_covers 19 _ (by decide +kernel) fun t hf y => ?_
  rw [after0_19]
  obtain ⟨z, r, o, rfl⟩ := ix3_of (n₀ := 1) (n₁ := 64) (n₂ := 12) y
  refine (boxes4_eq m c (at4 t) z r o).trans ?_
  blk_simp [idx_19 t]
  exact at_table _ 22 22 64 (by omega) t _ r o (by blk_simp [idx_19 t]) (by blk_simp [idx_19 t]) (by blk_simp [idx_19 t])

end Cert.KernelIdeal.Hand
-- ==== Proof.Math.Tail.lean ====
module

public import proofs.«01_k».proof.Proof.Math.Arrays
public import Idealize.ShloMosaic.Lib.Pipeline.ValueKit

@[expose] public section

set_option maxRecDepth 16384

noncomputable section

/-! The operations after the kernel: every level's arrays laid out one anchor a row, the five levels one after the
other. -/

namespace Cert.KernelIdeal.Hand

open Cert.KernelIdeal Cert.KernelIdeal.Gen Cert.Heads
open Idealize.ShloMosaic Idealize.ShloMosaic.TcCoe

variable (m : (ℓ : Loc nD τ sig) → Buf (Elt Ideal) ℓ)

/-- Every buffer as the kernel leaves it: the arrays after the last point, the others as it found them. -/
def done (c : Dev nD) : Valuation τ sig (Elt Ideal) :=
  Pipeline.withArrays (cfgs 0).spec c (V0 m c) fun w => (dats m 0 c).arrAt w (cfgs 0).N

/-- The operations after the kernel find level 0's logits in output 5's buffer. -/
theorem done_5 (c : Dev nD) : done m c (Proc.devRef .tc main_v38_0) = (dats m 0 c).arrAt 5 (cfgs 0).N :=
  Pipeline.withArrays_arr (cfgs 0).spec (by decide) c (V0 m c) (fun w => (dats m 0 c).arrAt w (cfgs 0).N) 5
/-- The operations after the kernel find level 0's probabilities in output 6's buffer. -/
theorem done_6 (c : Dev nD) : done m c (Proc.devRef .tc main_v38_1) = (dats m 0 c).arrAt 6 (cfgs 0).N :=
  Pipeline.withArrays_arr (cfgs 0).spec (by decide) c (V0 m c) (fun w => (dats m 0 c).arrAt w (cfgs 0).N) 6
/-- The operations after the kernel find level 0's boxes in output 7's buffer. -/
theorem done_7 (c : Dev nD) : done m c (Proc.devRef .tc main_v38_2) = (dats m 0 c).arrAt 7 (cfgs 0).N :=
  Pipeline.withArrays_arr (cfgs 0).spec (by decide) c (V0 m c) (fun w => (dats m 0 c).arrAt w (cfgs 0).N) 7
/-- The operations after the kernel find level 1's logits in output 8's buffer. -/
theorem done_8 (c : Dev nD) : done m c (Proc.devRef .tc main_v38_3) = (dats m 0 c).arrAt 8 (cfgs 0).N :=
  Pipeline.withArrays_arr (cfgs 0).spec (by decide) c (V0 m c) (fun w => (dats m 0 c).arrAt w (cfgs 0).N) 8
/-- The operations after the kernel find level 1's probabilities in output 9's buffer. -/
theorem done_9 (c : Dev nD) : done m c (Proc.devRef .tc main_v38_4) = (dats m 0 c).arrAt 9 (cfgs 0).N :=
  Pipeline.withArrays_arr (cfgs 0).spec (by decide) c (V0 m c) (fun w => (dats m 0 c).arrAt w (cfgs 0).N) 9
/-- The operations after the kernel find level 1's boxes in output 10's buffer. -/
theorem done_10 (c : Dev nD) : done m c (Proc.devRef .tc main_v38_5) = (dats m 0 c).arrAt 10 (cfgs 0).N :=
  Pipeline.withArrays_arr (cfgs 0).spec (by decide) c (V0 m c) (fun w => (dats m 0 c).arrAt w (cfgs 0).N) 10
/-- The operations after the kernel find level 2's logits in output 11's buffer. -/
theorem done_11 (c : Dev nD) : done m c (Proc.devRef .tc main_v38_6) = (dats m 0 c).arrAt 11 (cfgs 0).N :=
  Pipeline.withArrays_arr (cfgs 0).spec (by decide) c (V0 m c) (fun w => (dats m 0 c).arrAt w (cfgs 0).N) 11
/-- The operations after the kernel find level 2's probabilities in output 12's buffer. -/
theorem done_12 (c : Dev nD) : done m c (Proc.devRef .tc main_v38_7) = (dats m 0 c).arrAt 12 (cfgs 0).N :=
  Pipeline.withArrays_arr (cfgs 0).spec (by decide) c (V0 m c) (fun w => (dats m 0 c).arrAt w (cfgs 0).N) 12
/-- The operations after the kernel find level 2's boxes in output 13's buffer. -/
theorem done_13 (c : Dev nD) : done m c (Proc.devRef .tc main_v38_8) = (dats m 0 c).arrAt 13 (cfgs 0).N :=
  Pipeline.withArrays_arr (cfgs 0).spec (by decide) c (V0 m c) (fun w => (dats m 0 c).arrAt w (cfgs 0).N) 13
/-- The operations after the kernel find level 3's logits in output 14's buffer. -/
theorem done_14 (c : Dev nD) : done m c (Proc.devRef .tc main_v38_9) = (dats m 0 c).arrAt 14 (cfgs 0).N :=
  Pipeline.withArrays_arr (cfgs 0).spec (by decide) c (V0 m c) (fun w => (dats m 0 c).arrAt w (cfgs 0).N) 14
/-- The operations after the kernel find level 3's probabilities in output 15's buffer. -/
theorem done_15 (c : Dev nD) : done m c (Proc.devRef .tc main_v38_10) = (dats m 0 c).arrAt 15 (cfgs 0).N :=
  Pipeline.withArrays_arr (cfgs 0).spec (by decide) c (V0 m c) (fun w => (dats m 0 c).arrAt w (cfgs 0).N) 15
/-- The operations after the kernel find level 3's boxes in output 16's buffer. -/
theorem done_16 (c : Dev nD) : done m c (Proc.devRef .tc main_v38_11) = (dats m 0 c).arrAt 16 (cfgs 0).N :=
  Pipeline.withArrays_arr (cfgs 0).spec (by decide) c (V0 m c) (fun w => (dats m 0 c).arrAt w (cfgs 0).N) 16
/-- The operations after the kernel find level 4's logits in output 17's buffer. -/
theorem done_17 (c : Dev nD) : done m c (Proc.devRef .tc main_v38_12) = (dats m 0 c).arrAt 17 (cfgs 0).N :=
  Pipeline.withArrays_arr (cfgs 0).spec (by decide) c (V0 m c) (fun w => (dats m 0 c).arrAt w (cfgs 0).N) 17
/-- The operations after the kernel find level 4's probabilities in output 18's buffer. -/
theorem done_18 (c : Dev nD) : done m c (Proc.devRef .tc main_v38_13) = (dats m 0 c).arrAt 18 (cfgs 0).N :=
  Pipeline.withArrays_arr (cfgs 0).spec (by decide) c (V0 m c) (fun w => (dats m 0 c).arrAt w (cfgs 0).N) 18
/-- The operations after the kernel find level 4's boxes in output 19's buffer. -/
theorem done_19 (c : Dev nD) : done m c (Proc.devRef .tc main_v38_14) = (dats m 0 c).arrAt 19 (cfgs 0).N :=
  Pipeline.withArrays_arr (cfgs 0).spec (by decide) c (V0 m c) (fun w => (dats m 0 c).arrAt w (cfgs 0).N) 19

/-- The five levels one after the other, two numbers an anchor. -/
def cat2 (u0 : FVec Ideal S2x49152x2 .f32) (u1 : FVec Ideal S2x12288x2 .f32) (u2 : FVec Ideal S2x3072x2 .f32) (u3 : FVec Ideal S2x768x2 .f32) (u4 : FVec Ideal S2x192x2 .f32) :
    FVec Ideal S2x65472x2 .f32 :=
  concatenate S2x65472x2 1 [⟨S2x49152x2, u0⟩, ⟨S2x12288x2, u1⟩, ⟨S2x3072x2, u2⟩, ⟨S2x768x2, u3⟩, ⟨S2x192x2, u4⟩] concatenates_S2x49152x2_S2x12288x2_S2x3072x2_S2x768x2_S2x192x2_S2x65472x2_d1

/-- The five levels one after the other, four numbers an anchor. -/
def cat4 (u0 : FVec Ideal S2x49152x4 .f32) (u1 : FVec Ideal S2x12288x4 .f32) (u2 : FVec Ideal S2x3072x4 .f32) (u3 : FVec Ideal S2x768x4 .f32) (u4 : FVec Ideal S2x192x4 .f32) :
    FVec Ideal S2x65472x4 .f32 :=
  concatenate S2x65472x4 1 [⟨S2x49152x4, u0⟩, ⟨S2x12288x4, u1⟩, ⟨S2x3072x4, u2⟩, ⟨S2x768x4, u3⟩, ⟨S2x192x4, u4⟩] concatenates_S2x49152x4_S2x12288x4_S2x3072x4_S2x768x4_S2x192x4_S2x65472x4_d1

/-- The first result is the five levels' scores, laid out one anchor a row. -/
theorem tail_logits (c : Dev nD) : Pipeline.afterTail₀ cfgs (dats m) 0 (V0 m) [hostOps1] c main_v54
    = cat2 (shapeCast S2x49152x2 ((dats m 0 c).arrAt 5 (cfgs 0).N : FVec Ideal S2x16384x6 .f32) shapeCasts_S2x16384x6_S2x49152x2)
        (shapeCast S2x12288x2 ((dats m 0 c).arrAt 8 (cfgs 0).N : FVec Ideal S2x4096x6 .f32) shapeCasts_S2x4096x6_S2x12288x2)
        (shapeCast S2x3072x2 ((dats m 0 c).arrAt 11 (cfgs 0).N : FVec Ideal S2x1024x6 .f32) shapeCasts_S2x1024x6_S2x3072x2)
        (shapeCast S2x768x2 ((dats m 0 c).arrAt 14 (cfgs 0).N : FVec Ideal S2x256x6 .f32) shapeCasts_S2x256x6_S2x768x2)
        (shapeCast S2x192x2 ((dats m 0 c).arrAt 17 (cfgs 0).N : FVec Ideal S2x64x6 .f32) shapeCasts_S2x64x6_S2x192x2) := by
  rw [← done_5, ← done_8, ← done_11, ← done_14, ← done_17]
  unfold Pipeline.afterTail₀
  change StableHlo.after _ (done m c) _ = _
  simp only [hostOps1, List.flatten_cons, List.flatten_nil, List.append_nil, List.cons_append, List.nil_append]
  simp only [StableHlo.after_cons, StableHlo.after_nil]
  after_results_simp
  dsimp only [Matrix.cons_val]
  simp -implicitDefEqProofs only [↓ StableHlo.readResult, ↓ StableHlo.readPieces, StableHlo.TRef.toBuf, StableHlo.TRef.ofBuf, cast_cast, cast_eq, -eq_self]
  rfl

/-- The second result is the five levels' probabilities, laid out one anchor a row. -/
theorem tail_probs (c : Dev nD) : Pipeline.afterTail₀ cfgs (dats m) 0 (V0 m) [hostOps1] c main_v55
    = cat2 (shapeCast S2x49152x2 ((dats m 0 c).arrAt 6 (cfgs 0).N : FVec Ideal S2x16384x6 .f32) shapeCasts_S2x16384x6_S2x49152x2)
        (shapeCast S2x12288x2 ((dats m 0 c).arrAt 9 (cfgs 0).N : FVec Ideal S2x4096x6 .f32) shapeCasts_S2x4096x6_S2x12288x2)
        (shapeCast S2x3072x2 ((dats m 0 c).arrAt 12 (cfgs 0).N : FVec Ideal S2x1024x6 .f32) shapeCasts_S2x1024x6_S2x3072x2)
        (shapeCast S2x768x2 ((dats m 0 c).arrAt 15 (cfgs 0).N : FVec Ideal S2x256x6 .f32) shapeCasts_S2x256x6_S2x768x2)
        (shapeCast S2x192x2 ((dats m 0 c).arrAt 18 (cfgs 0).N : FVec Ideal S2x64x6 .f32) shapeCasts_S2x64x6_S2x192x2) := by
  rw [← done_6, ← done_9, ← done_12, ← done_15, ← done_18]
  unfold Pipeline.afterTail₀
  change StableHlo.after _ (done m c) _ = _
  simp only [hostOps1, List.flatten_cons, List.flatten_nil, List.append_nil, List.cons_append, List.nil_append]
  simp only [StableHlo.after_cons, StableHlo.after_nil]
  after_results_simp
  dsimp only [Matrix.cons_val]
  simp -implicitDefEqProofs only [↓ StableHlo.readResult, ↓ StableHlo.readPieces, StableHlo.TRef.toBuf, StableHlo.TRef.ofBuf, cast_cast, cast_eq, -eq_self]
  rfl

/-- The third result is the five levels' boxes, laid out one anchor a row. -/
theorem tail_boxes (c : Dev nD) : Pipeline.afterTail₀ cfgs (dats m) 0 (V0 m) [hostOps1] c main_v56
    = cat4 (shapeCast S2x49152x4 ((dats m 0 c).arrAt 7 (cfgs 0).N : FVec Ideal S2x16384x12 .f32) shapeCasts_S2x16384x12_S2x49152x4)
        (shapeCast S2x12288x4 ((dats m 0 c).arrAt 10 (cfgs 0).N : FVec Ideal S2x4096x12 .f32) shapeCasts_S2x4096x12_S2x12288x4)
        (shapeCast S2x3072x4 ((dats m 0 c).arrAt 13 (cfgs 0).N : FVec Ideal S2x1024x12 .f32) shapeCasts_S2x1024x12_S2x3072x4)
        (shapeCast S2x768x4 ((dats m 0 c).arrAt 16 (cfgs 0).N : FVec Ideal S2x256x12 .f32) shapeCasts_S2x256x12_S2x768x4)
        (shapeCast S2x192x4 ((dats m 0 c).arrAt 19 (cfgs 0).N : FVec Ideal S2x64x12 .f32) shapeCasts_S2x64x12_S2x192x4) := by
  rw [← done_7, ← done_10, ← done_13, ← done_16, ← done_19]
  unfold Pipeline.afterTail₀
  change StableHlo.after _ (done m c) _ = _
  simp only [hostOps1, List.flatten_cons, List.flatten_nil, List.append_nil, List.cons_append, List.nil_append]
  simp only [StableHlo.after_cons, StableHlo.after_nil]
  after_results_simp
  dsimp only [Matrix.cons_val]
  simp -implicitDefEqProofs only [↓ StableHlo.readResult, ↓ StableHlo.readPieces, StableHlo.TRef.toBuf, StableHlo.TRef.ofBuf, cast_cast, cast_eq, -eq_self]
  rfl
end Cert.KernelIdeal.Hand
-- ==== Proof.Math.Reference.lean ====
module

public import proofs.«01_k».proof.Proof.Gen.ReferenceIdeal.Run
public import proofs.«01_k».proof.Proof.Math.Spec
public import Idealize.ShloMosaic.Lib.Pointwise

@[expose] public section

set_option maxRecDepth 16384

noncomputable section

/-! What the reference computes for each level: the shared features, the class scores, their softmax, the boxes. -/

namespace Cert.ReferenceIdeal.Hand

open Cert.ReferenceIdeal Cert.ReferenceIdeal.Gen Cert.ReferenceIdeal.Value Cert.Heads
open Idealize.ShloMosaic Idealize.ShloMosaic.TcCoe

/-- The integer zero as a float. -/
theorem zero_word : (FloatOps.sitofp .f32 (0#32 : BitVec 32) : Ideal .f32) = (0 : EReal) := by
  show ((((0#32 : BitVec 32).toInt : ℤ) : ℝ) : EReal) = 0
  simp

/-- A map with its border, at any size. -/
theorem padded_eq {H P : ℕ} (X : FVec Ideal ⟨4, ![2, H, H, 256]⟩ .f32)
    (h : (⟨4, ![2, H, H, 256]⟩ : Shape).Pads (![0, 1, 1, 0] : Fin 4 → ℕ) ![0, 1, 1, 0] ![0, 0, 0, 0] ⟨4, ![2, P, P, 256]⟩)
    (b : Fin 2) (p q : Fin P) (ch : Fin 256) :
    pad ⟨4, ![2, P, P, 256]⟩ ![0, 1, 1, 0] ![0, 1, 1, 0] ![0, 0, 0, 0] X (sitofp .f32 (constantI S_ 32 0#32) : FVec Ideal S_ .f32) h h_S_
        (ix4 b p q ch) = framed (fun y x ch => X (ix4 b y x ch)) p.1 q.1 ch := by
  pointwise
  simp only [zero_word]
  refine dite_congr rfl (fun hh => congrArg X (funext fun a => Fin.ext ?_)) fun _ => rfl
  have hb := b.isLt
  fin_cases a
  · show (b.1 - 0) / (0 + 1) = b.1; omega
  · show (p.1 - 1) / (0 + 1) = p.1 - 1; omega
  · show (q.1 - 1) / (0 + 1) = q.1 - 1; omega
  · show (ch.1 - 0) / (0 + 1) = ch.1; omega

section Softmax
variable {n : ℕ} (l : FVec Ideal ⟨3, ![2, n, 2]⟩ .f32) (h₀ : S_.BroadcastsInDim ⟨2, ![2, n]⟩ (![] : Fin 0 → Fin 2))
  (h₁ : (⟨2, ![2, n]⟩ : Shape).BroadcastsInDim ⟨3, ![2, n, 1]⟩ (![0, 1] : Fin 2 → Fin 3))
  (h₂ : (⟨3, ![2, n, 1]⟩ : Shape).BroadcastsInDim ⟨3, ![2, n, 2]⟩ (![0, 1, 2] : Fin 3 → Fin 3))
  (hr : (⟨3, ![2, n, 2]⟩ : Shape).ReducesTo [2] ⟨2, ![2, n]⟩)

/-- One number a row, repeated over the row's two classes. -/
abbrev twice (x : FVec Ideal ⟨2, ![2, n]⟩ .f32) : FVec Ideal ⟨3, ![2, n, 2]⟩ .f32 :=
  broadcastInDim ⟨3, ![2, n, 2]⟩ ![0, 1, 2] h₂ (broadcastInDim ⟨3, ![2, n, 1]⟩ ![0, 1] h₁ x)

/-- A number a row, put beside itself, read at an index. -/
theorem twice_eq (x : FVec Ideal ⟨2, ![2, n]⟩ .f32) : twice h₁ h₂ x = fun i => x (ix2 (i 0) (i 1)) := by
  funext i
  have hi : (i 1).val < n := (i 1).isLt
  unfold twice
  rw [broadcastInDim_apply _ h₂ _ i (ix3 (i 0) (i 1) 0), broadcastInDim_apply _ h₁ _ _ (ix2 (i 0) (i 1))]
  · intro a
    fin_cases a
    · rfl
    · show (i 1).val = if n = 1 then 0 else (i 1).val
      split_ifs <;> omega
  · intro a
    fin_cases a
    · rfl
    · show (i 1).val = if n = 1 then 0 else (i 1).val
      split_ifs <;> omega
    · rfl

/-- The exponentials of the scores, each row's largest taken off. -/
abbrev lifted : FVec Ideal ⟨3, ![2, n, 2]⟩ .f32 :=
  Host.exp (subf l (twice h₁ h₂ (maximumf (broadcastInDim ⟨2, ![2, n]⟩ ![] h₀ (constant S_ .f32 0xFF800000#32))
    (Host.reduce FloatOps.maximumf l (constant S_ .f32 0xFF800000#32) hr h_S_))))

/-- The softmax over the two classes of each anchor, for any number of anchors. -/
abbrev soft : FVec Ideal ⟨3, ![2, n, 2]⟩ .f32 :=
  Host.divf (lifted l h₀ h₁ h₂ hr) (twice h₁ h₂ (Host.reduceAdd (lifted l h₀ h₁ h₂ hr) (constant S_ .f32 0x00000000#32) hr h_S_))

/-- The softmax of an anchor's two scores, read at an index. -/
theorem soft_eq (b : Fin 2) (k : Fin n) (j : Fin 2) :
    soft l h₀ h₁ h₂ hr (ix3 b k j) = pair (l (ix3 b k j)) (l (ix3 b k ⟨1 - j.1, by omega⟩)) := by
  unfold soft lifted
  simp only [twice_eq]
  pointwise
  simp only [ofBits_bottom]
  exact softmax_two (fun j => l (ix3 b k j)) j

/-- The class probabilities, where the scores are a level's. -/
theorem prob_of {H W : ℕ} (X : (⟨4, ![2, H, W, 256]⟩ : Shape).Idx → EReal) (T : (⟨4, ![3, 3, 256, 512]⟩ : Shape).Idx → EReal)
    (s : (⟨1, ![512]⟩ : Shape).Idx → EReal) (A : (⟨4, ![1, 1, 512, 6]⟩ : Shape).Idx → EReal) (a : (⟨1, ![6]⟩ : Shape).Idx → EReal)
    (hl : ∀ (b : Fin 2) (k : Fin n) (j : Fin 2),
      l (ix3 b k j) = linAt X T s (c := 6) A a b (k.1 / 3) ⟨k.1 % 3 * 2 + j.1, by omega⟩) (b : Fin 2) (k : Fin n) (j : Fin 2) :
    soft l h₀ h₁ h₂ hr (ix3 b k j) = probAt X T s A a b (k.1 / 3) ⟨k.1 % 3 * 2 + j.1, by omega⟩ := by
  have ho : (⟨k.1 % 3 * 2 + (1 - j.1), by omega⟩ : Fin 6) = other ⟨k.1 % 3 * 2 + j.1, by omega⟩ :=
    Fin.ext (by simp only [other]; omega)
  rw [soft_eq, hl, hl]
  dsimp only
  rw [ho]
  rfl

end Softmax

variable (V0 : Valuation τ sig (Elt Ideal))

/-! Level 0. -/

/-- The reference's padded map of level 0 is the map in its border of zeros. -/
theorem framed0 (b : Fin 2) (p q : Fin 130) (ch : Fin 256) :
    (res_main_v0 V0 : FVec Ideal S2x130x130x256 .f32) (ix4 b p q ch) = framed (fun y x ch => (V0 (Proc.devRef .tc main_arg0) : FVec Ideal S2x128x128x256 .f32) (ix4 b y x ch)) p.1 q.1 ch :=
  padded_eq _ _ b p q ch

/-- The reference's shared features of level 0. -/
theorem share0 (b : Fin 2) (y x : Fin 128) (k : Fin 512) :
    (res_main_v50 V0 : FVec Ideal S2x128x128x512 .f32) (ix4 b y x k)
      = feat (fun y x ch => (V0 (Proc.devRef .tc main_arg0) : FVec Ideal S2x128x128x256 .f32) (ix4 b y x ch))
          (fun dy dx ch k => (V0 (Proc.devRef .tc main_arg5) : FVec Ideal S3x3x256x512 .f32) (ix4 dy dx ch k))
          (fun k => (V0 (Proc.devRef .tc main_arg6) : FVec Ideal S512 .f32) (ix1 k)) y.1 x.1 k := by
  rw [feat, taps_rows]
  pointwise [res_main_v50]
  simp only [framed0, Nat.add_comm]

/-- The reference's class scores of level 0, one anchor a row. -/
theorem logit0 (b : Fin 2) (n : Fin 49152) (j : Fin 2) :
    (res_main_v56 V0 : FVec Ideal S2x49152x2 .f32) (ix3 b n j)
      = linAt (V0 (Proc.devRef .tc main_arg0) : FVec Ideal S2x128x128x256 .f32) (V0 (Proc.devRef .tc main_arg5)) (V0 (Proc.devRef .tc main_arg6)) (c := 6)
          (V0 (Proc.devRef .tc main_arg7)) (V0 (Proc.devRef .tc main_arg8)) b (n.1 / 3) ⟨n.1 % 3 * 2 + j.1, by omega⟩ := by
  have h : n.1 / 384 = n.1 / 3 / 128 := by omega
  pointwise [res_main_v56]
  simp only [share0, h]
  rfl

/-- The level's softmax. -/
def soft0 (l : FVec Ideal S2x49152x2 .f32) : FVec Ideal S2x49152x2 .f32 :=
  soft l bcast_S_S2x49152 bcast_S2x49152_S2x49152x1_0_1 bcast_S2x49152x1_S2x49152x2_0_1_2 reducesTo_S2x49152x2_S2x49152_d2

/-- The reference's class probabilities of level 0, one anchor a row. -/
theorem prob0 (b : Fin 2) (n : Fin 49152) (j : Fin 2) :
    soft0 (res_main_v56 V0) (ix3 b n j)
      = probAt (V0 (Proc.devRef .tc main_arg0) : FVec Ideal S2x128x128x256 .f32) (V0 (Proc.devRef .tc main_arg5)) (V0 (Proc.devRef .tc main_arg6))
          (V0 (Proc.devRef .tc main_arg7)) (V0 (Proc.devRef .tc main_arg8)) b (n.1 / 3) ⟨n.1 % 3 * 2 + j.1, by omega⟩ :=
  prob_of _ _ _ _ _ _ _ _ _ _ (logit0 V0) b n j

/-- The boxes of the level, four numbers an anchor. -/
def boxes0 : FVec Ideal S2x49152x4 .f32 :=
  shapeCast _ (addf (Host.dotGeneral (φ₁ := .f32) (φ₂ := .f32) dot_S2x128x128x512_S512x12_S2x128x128x12_3_0_012_1_n_n none (res_main_v50 V0 : FVec Ideal S2x128x128x512 .f32) (shapeCast _ (V0 (Proc.devRef .tc main_arg9) : FVec Ideal S1x1x512x12 .f32) shapeCasts_S1x1x512x12_S512x12)) (broadcastInDim S2x128x128x12 ![0, 1, 2, 3] bcast_S1x1x1x12_S2x128x128x12_0_1_2_3 (broadcastInDim S1x1x1x12 ![3] bcast_S12_S1x1x1x12_3 (V0 (Proc.devRef .tc main_arg10) : FVec Ideal S12 .f32)))) shapeCasts_S2x128x128x12_S2x49152x4

/-- The reference's boxes of level 0, one anchor a row. -/
theorem box0 (b : Fin 2) (n : Fin 49152) (j : Fin 4) :
    boxes0 V0 (ix3 b n j)
      = linAt (V0 (Proc.devRef .tc main_arg0) : FVec Ideal S2x128x128x256 .f32) (V0 (Proc.devRef .tc main_arg5)) (V0 (Proc.devRef .tc main_arg6)) (c := 12)
          (V0 (Proc.devRef .tc main_arg9)) (V0 (Proc.devRef .tc main_arg10)) b (n.1 / 3) ⟨n.1 % 3 * 4 + j.1, by omega⟩ := by
  have h : n.1 / 384 = n.1 / 3 / 128 := by omega
  pointwise [boxes0]
  simp only [share0, h]
  rfl

/-! Level 1. -/

/-- The reference's padded map of level 1 is the map in its border of zeros. -/
theorem framed1 (b : Fin 2) (p q : Fin 66) (ch : Fin 256) :
    (res_main_v74 V0 : FVec Ideal S2x66x66x256 .f32) (ix4 b p q ch) = framed (fun y x ch => (V0 (Proc.devRef .tc main_arg1) : FVec Ideal S2x64x64x256 .f32) (ix4 b y x ch)) p.1 q.1 ch :=
  padded_eq _ _ b p q ch

/-- The reference's shared features of level 1. -/
theorem share1 (b : Fin 2) (y x : Fin 64) (k : Fin 512) :
    (res_main_v124 V0 : FVec Ideal S2x64x64x512 .f32) (ix4 b y x k)
      = feat (fun y x ch => (V0 (Proc.devRef .tc main_arg1) : FVec Ideal S2x64x64x256 .f32) (ix4 b y x ch))
          (fun dy dx ch k => (V0 (Proc.devRef .tc main_arg5) : FVec Ideal S3x3x256x512 .f32) (ix4 dy dx ch k))
          (fun k => (V0 (Proc.devRef .tc main_arg6) : FVec Ideal S512 .f32) (ix1 k)) y.1 x.1 k := by
  rw [feat, taps_rows]
  pointwise [res_main_v124]
  simp only [framed1, Nat.add_comm]

/-- The reference's class scores of level 1, one anchor a row. -/
theorem logit1 (b : Fin 2) (n : Fin 12288) (j : Fin 2) :
    (res_main_v130 V0 : FVec Ideal S2x12288x2 .f32) (ix3 b n j)
      = linAt (V0 (Proc.devRef .tc main_arg1) : FVec Ideal S2x64x64x256 .f32) (V0 (Proc.devRef .tc main_arg5)) (V0 (Proc.devRef .tc main_arg6)) (c := 6)
          (V0 (Proc.devRef .tc main_arg7)) (V0 (Proc.devRef .tc main_arg8)) b (n.1 / 3) ⟨n.1 % 3 * 2 + j.1, by omega⟩ := by
  have h : n.1 / 192 = n.1 / 3 / 64 := by omega
  pointwise [res_main_v130]
  simp only [share1, h]
  rfl

/-- The level's softmax. -/
def soft1 (l : FVec Ideal S2x12288x2 .f32) : FVec Ideal S2x12288x2 .f32 :=
  soft l bcast_S_S2x12288 bcast_S2x12288_S2x12288x1_0_1 bcast_S2x12288x1_S2x12288x2_0_1_2 reducesTo_S2x12288x2_S2x12288_d2

/-- The reference's class probabilities of level 1, one anchor a row. -/
theorem prob1 (b : Fin 2) (n : Fin 12288) (j : Fin 2) :
    soft1 (res_main_v130 V0) (ix3 b n j)
      = probAt (V0 (Proc.devRef .tc main_arg1) : FVec Ideal S2x64x64x256 .f32) (V0 (Proc.devRef .tc main_arg5)) (V0 (Proc.devRef .tc main_arg6))
          (V0 (Proc.devRef .tc main_arg7)) (V0 (Proc.devRef .tc main_arg8)) b (n.1 / 3) ⟨n.1 % 3 * 2 + j.1, by omega⟩ :=
  prob_of _ _ _ _ _ _ _ _ _ _ (logit1 V0) b n j

/-- The boxes of the level, four numbers an anchor. -/
def boxes1 : FVec Ideal S2x12288x4 .f32 :=
  shapeCast _ (addf (Host.dotGeneral (φ₁ := .f32) (φ₂ := .f32) dot_S2x64x64x512_S512x12_S2x64x64x12_3_0_012_1_n_n none (res_main_v124 V0 : FVec Ideal S2x64x64x512 .f32) (shapeCast _ (V0 (Proc.devRef .tc main_arg9) : FVec Ideal S1x1x512x12 .f32) shapeCasts_S1x1x512x12_S512x12)) (broadcastInDim S2x64x64x12 ![0, 1, 2, 3] bcast_S1x1x1x12_S2x64x64x12_0_1_2_3 (broadcastInDim S1x1x1x12 ![3] bcast_S12_S1x1x1x12_3 (V0 (Proc.devRef .tc main_arg10) : FVec Ideal S12 .f32)))) shapeCasts_S2x64x64x12_S2x12288x4

/-- The reference's boxes of level 1, one anchor a row. -/
theorem box1 (b : Fin 2) (n : Fin 12288) (j : Fin 4) :
    boxes1 V0 (ix3 b n j)
      = linAt (V0 (Proc.devRef .tc main_arg1) : FVec Ideal S2x64x64x256 .f32) (V0 (Proc.devRef .tc main_arg5)) (V0 (Proc.devRef .tc main_arg6)) (c := 12)
          (V0 (Proc.devRef .tc main_arg9)) (V0 (Proc.devRef .tc main_arg10)) b (n.1 / 3) ⟨n.1 % 3 * 4 + j.1, by omega⟩ := by
  have h : n.1 / 192 = n.1 / 3 / 64 := by omega
  pointwise [boxes1]
  simp only [share1, h]
  rfl

/-! Level 2. -/

/-- The reference's padded map of level 2 is the map in its border of zeros. -/
theorem framed2 (b : Fin 2) (p q : Fin 34) (ch : Fin 256) :
    (res_main_v148 V0 : FVec Ideal S2x34x34x256 .f32) (ix4 b p q ch) = framed (fun y x ch => (V0 (Proc.devRef .tc main_arg2) : FVec Ideal S2x32x32x256 .f32) (ix4 b y x ch)) p.1 q.1 ch :=
  padded_eq _ _ b p q ch

/-- The reference's shared features of level 2. -/
theorem share2 (b : Fin 2) (y x : Fin 32) (k : Fin 512) :
    (res_main_v198 V0 : FVec Ideal S2x32x32x512 .f32) (ix4 b y x k)
      = feat (fun y x ch => (V0 (Proc.devRef .tc main_arg2) : FVec Ideal S2x32x32x256 .f32) (ix4 b y x ch))
          (fun dy dx ch k => (V0 (Proc.devRef .tc main_arg5) : FVec Ideal S3x3x256x512 .f32) (ix4 dy dx ch k))
          (fun k => (V0 (Proc.devRef .tc main_arg6) : FVec Ideal S512 .f32) (ix1 k)) y.1 x.1 k := by
  rw [feat, taps_rows]
  pointwise [res_main_v198]
  simp only [framed2, Nat.add_comm]

/-- The reference's class scores of level 2, one anchor a row. -/
theorem logit2 (b : Fin 2) (n : Fin 3072) (j : Fin 2) :
    (res_main_v204 V0 : FVec Ideal S2x3072x2 .f32) (ix3 b n j)
      = linAt (V0 (Proc.devRef .tc main_arg2) : FVec Ideal S2x32x32x256 .f32) (V0 (Proc.devRef .tc main_arg5)) (V0 (Proc.devRef .tc main_arg6)) (c := 6)
          (V0 (Proc.devRef .tc main_arg7)) (V0 (Proc.devRef .tc main_arg8)) b (n.1 / 3) ⟨n.1 % 3 * 2 + j.1, by omega⟩ := by
  have h : n.1 / 96 = n.1 / 3 / 32 := by omega
  pointwise [res_main_v204]
  simp only [share2, h]
  rfl

/-- The level's softmax. -/
def soft2 (l : FVec Ideal S2x3072x2 .f32) : FVec Ideal S2x3072x2 .f32 :=
  soft l bcast_S_S2x3072 bcast_S2x3072_S2x3072x1_0_1 bcast_S2x3072x1_S2x3072x2_0_1_2 reducesTo_S2x3072x2_S2x3072_d2

/-- The reference's class probabilities of level 2, one anchor a row. -/
theorem prob2 (b : Fin 2) (n : Fin 3072) (j : Fin 2) :
    soft2 (res_main_v204 V0) (ix3 b n j)
      = probAt (V0 (Proc.devRef .tc main_arg2) : FVec Ideal S2x32x32x256 .f32) (V0 (Proc.devRef .tc main_arg5)) (V0 (Proc.devRef .tc main_arg6))
          (V0 (Proc.devRef .tc main_arg7)) (V0 (Proc.devRef .tc main_arg8)) b (n.1 / 3) ⟨n.1 % 3 * 2 + j.1, by omega⟩ :=
  prob_of _ _ _ _ _ _ _ _ _ _ (logit2 V0) b n j

/-- The boxes of the level, four numbers an anchor. -/
def boxes2 : FVec Ideal S2x3072x4 .f32 :=
  shapeCast _ (addf (Host.dotGeneral (φ₁ := .f32) (φ₂ := .f32) dot_S2x32x32x512_S512x12_S2x32x32x12_3_0_012_1_n_n none (res_main_v198 V0 : FVec Ideal S2x32x32x512 .f32) (shapeCast _ (V0 (Proc.devRef .tc main_arg9) : FVec Ideal S1x1x512x12 .f32) shapeCasts_S1x1x512x12_S512x12)) (broadcastInDim S2x32x32x12 ![0, 1, 2, 3] bcast_S1x1x1x12_S2x32x32x12_0_1_2_3 (broadcastInDim S1x1x1x12 ![3] bcast_S12_S1x1x1x12_3 (V0 (Proc.devRef .tc main_arg10) : FVec Ideal S12 .f32)))) shapeCasts_S2x32x32x12_S2x3072x4

/-- The reference's boxes of level 2, one anchor a row. -/
theorem box2 (b : Fin 2) (n : Fin 3072) (j : Fin 4) :
    boxes2 V0 (ix3 b n j)
      = linAt (V0 (Proc.devRef .tc main_arg2) : FVec Ideal S2x32x32x256 .f32) (V0 (Proc.devRef .tc main_arg5)) (V0 (Proc.devRef .tc main_arg6)) (c := 12)
          (V0 (Proc.devRef .tc main_arg9)) (V0 (Proc.devRef .tc main_arg10)) b (n.1 / 3) ⟨n.1 % 3 * 4 + j.1, by omega⟩ := by
  have h : n.1 / 96 = n.1 / 3 / 32 := by omega
  pointwise [boxes2]
  simp only [share2, h]
  rfl

/-! Level 3. -/

/-- The reference's padded map of level 3 is the map in its border of zeros. -/
theorem framed3 (b : Fin 2) (p q : Fin 18) (ch : Fin 256) :
    (res_main_v222 V0 : FVec Ideal S2x18x18x256 .f32) (ix4 b p q ch) = framed (fun y x ch => (V0 (Proc.devRef .tc main_arg3) : FVec Ideal S2x16x16x256 .f32) (ix4 b y x ch)) p.1 q.1 ch :=
  padded_eq _ _ b p q ch

/-- The reference's shared features of level 3. -/
theorem share3 (b : Fin 2) (y x : Fin 16) (k : Fin 512) :
    (res_main_v272 V0 : FVec Ideal S2x16x16x512 .f32) (ix4 b y x k)
      = feat (fun y x ch => (V0 (Proc.devRef .tc main_arg3) : FVec Ideal S2x16x16x256 .f32) (ix4 b y x ch))
          (fun dy dx ch k => (V0 (Proc.devRef .tc main_arg5) : FVec Ideal S3x3x256x512 .f32) (ix4 dy dx ch k))
          (fun k => (V0 (Proc.devRef .tc main_arg6) : FVec Ideal S512 .f32) (ix1 k)) y.1 x.1 k := by
  rw [feat, taps_rows]
  pointwise [res_main_v272]
  simp only [framed3, Nat.add_comm]

/-- The reference's class scores of level 3, one anchor a row. -/
theorem logit3 (b : Fin 2) (n : Fin 768) (j : Fin 2) :
    (res_main_v278 V0 : FVec Ideal S2x768x2 .f32) (ix3 b n j)
      = linAt (V0 (Proc.devRef .tc main_arg3) : FVec Ideal S2x16x16x256 .f32) (V0 (Proc.devRef .tc main_arg5)) (V0 (Proc.devRef .tc main_arg6)) (c := 6)
          (V0 (Proc.devRef .tc main_arg7)) (V0 (Proc.devRef .tc main_arg8)) b (n.1 / 3) ⟨n.1 % 3 * 2 + j.1, by omega⟩ := by
  have h : n.1 / 48 = n.1 / 3 / 16 := by omega
  pointwise [res_main_v278]
  simp only [share3, h]
  rfl

/-- The level's softmax. -/
def soft3 (l : FVec Ideal S2x768x2 .f32) : FVec Ideal S2x768x2 .f32 :=
  soft l bcast_S_S2x768 bcast_S2x768_S2x768x1_0_1 bcast_S2x768x1_S2x768x2_0_1_2 reducesTo_S2x768x2_S2x768_d2

/-- The reference's class probabilities of level 3, one anchor a row. -/
theorem prob3 (b : Fin 2) (n : Fin 768) (j : Fin 2) :
    soft3 (res_main_v278 V0) (ix3 b n j)
      = probAt (V0 (Proc.devRef .tc main_arg3) : FVec Ideal S2x16x16x256 .f32) (V0 (Proc.devRef .tc main_arg5)) (V0 (Proc.devRef .tc main_arg6))
          (V0 (Proc.devRef .tc main_arg7)) (V0 (Proc.devRef .tc main_arg8)) b (n.1 / 3) ⟨n.1 % 3 * 2 + j.1, by omega⟩ :=
  prob_of _ _ _ _ _ _ _ _ _ _ (logit3 V0) b n j

/-- The boxes of the level, four numbers an anchor. -/
def boxes3 : FVec Ideal S2x768x4 .f32 :=
  shapeCast _ (addf (Host.dotGeneral (φ₁ := .f32) (φ₂ := .f32) dot_S2x16x16x512_S512x12_S2x16x16x12_3_0_012_1_n_n none (res_main_v272 V0 : FVec Ideal S2x16x16x512 .f32) (shapeCast _ (V0 (Proc.devRef .tc main_arg9) : FVec Ideal S1x1x512x12 .f32) shapeCasts_S1x1x512x12_S512x12)) (broadcastInDim S2x16x16x12 ![0, 1, 2, 3] bcast_S1x1x1x12_S2x16x16x12_0_1_2_3 (broadcastInDim S1x1x1x12 ![3] bcast_S12_S1x1x1x12_3 (V0 (Proc.devRef .tc main_arg10) : FVec Ideal S12 .f32)))) shapeCasts_S2x16x16x12_S2x768x4

/-- The reference's boxes of level 3, one anchor a row. -/
theorem box3 (b : Fin 2) (n : Fin 768) (j : Fin 4) :
    boxes3 V0 (ix3 b n j)
      = linAt (V0 (Proc.devRef .tc main_arg3) : FVec Ideal S2x16x16x256 .f32) (V0 (Proc.devRef .tc main_arg5)) (V0 (Proc.devRef .tc main_arg6)) (c := 12)
          (V0 (Proc.devRef .tc main_arg9)) (V0 (Proc.devRef .tc main_arg10)) b (n.1 / 3) ⟨n.1 % 3 * 4 + j.1, by omega⟩ := by
  have h : n.1 / 48 = n.1 / 3 / 16 := by omega
  pointwise [boxes3]
  simp only [share3, h]
  rfl

/-! Level 4. -/

/-- The reference's padded map of level 4 is the map in its border of zeros. -/
theorem framed4 (b : Fin 2) (p q : Fin 10) (ch : Fin 256) :
    (res_main_v296 V0 : FVec Ideal S2x10x10x256 .f32) (ix4 b p q ch) = framed (fun y x ch => (V0 (Proc.devRef .tc main_arg4) : FVec Ideal S2x8x8x256 .f32) (ix4 b y x ch)) p.1 q.1 ch :=
  padded_eq _ _ b p q ch

/-- The reference's shared features of level 4. -/
theorem share4 (b : Fin 2) (y x : Fin 8) (k : Fin 512) :
    (res_main_v346 V0 : FVec Ideal S2x8x8x512 .f32) (ix4 b y x k)
      = feat (fun y x ch => (V0 (Proc.devRef .tc main_arg4) : FVec Ideal S2x8x8x256 .f32) (ix4 b y x ch))
          (fun dy dx ch k => (V0 (Proc.devRef .tc main_arg5) : FVec Ideal S3x3x256x512 .f32) (ix4 dy dx ch k))
          (fun k => (V0 (Proc.devRef .tc main_arg6) : FVec Ideal S512 .f32) (ix1 k)) y.1 x.1 k := by
  rw [feat, taps_rows]
  pointwise [res_main_v346]
  simp only [framed4, Nat.add_comm]

/-- The reference's class scores of level 4, one anchor a row. -/
theorem logit4 (b : Fin 2) (n : Fin 192) (j : Fin 2) :
    (res_main_v352 V0 : FVec Ideal S2x192x2 .f32) (ix3 b n j)
      = linAt (V0 (Proc.devRef .tc main_arg4) : FVec Ideal S2x8x8x256 .f32) (V0 (Proc.devRef .tc main_arg5)) (V0 (Proc.devRef .tc main_arg6)) (c := 6)
          (V0 (Proc.devRef .tc main_arg7)) (V0 (Proc.devRef .tc main_arg8)) b (n.1 / 3) ⟨n.1 % 3 * 2 + j.1, by omega⟩ := by
  have h : n.1 / 24 = n.1 / 3 / 8 := by omega
  pointwise [res_main_v352]
  simp only [share4, h]
  rfl

/-- The level's softmax. -/
def soft4 (l : FVec Ideal S2x192x2 .f32) : FVec Ideal S2x192x2 .f32 :=
  soft l bcast_S_S2x192 bcast_S2x192_S2x192x1_0_1 bcast_S2x192x1_S2x192x2_0_1_2 reducesTo_S2x192x2_S2x192_d2

/-- The reference's class probabilities of level 4, one anchor a row. -/
theorem prob4 (b : Fin 2) (n : Fin 192) (j : Fin 2) :
    soft4 (res_main_v352 V0) (ix3 b n j)
      = probAt (V0 (Proc.devRef .tc main_arg4) : FVec Ideal S2x8x8x256 .f32) (V0 (Proc.devRef .tc main_arg5)) (V0 (Proc.devRef .tc main_arg6))
          (V0 (Proc.devRef .tc main_arg7)) (V0 (Proc.devRef .tc main_arg8)) b (n.1 / 3) ⟨n.1 % 3 * 2 + j.1, by omega⟩ :=
  prob_of _ _ _ _ _ _ _ _ _ _ (logit4 V0) b n j

/-- The boxes of the level, four numbers an anchor. -/
def boxes4 : FVec Ideal S2x192x4 .f32 :=
  shapeCast _ (addf (Host.dotGeneral (φ₁ := .f32) (φ₂ := .f32) dot_S2x8x8x512_S512x12_S2x8x8x12_3_0_012_1_n_n none (res_main_v346 V0 : FVec Ideal S2x8x8x512 .f32) (shapeCast _ (V0 (Proc.devRef .tc main_arg9) : FVec Ideal S1x1x512x12 .f32) shapeCasts_S1x1x512x12_S512x12)) (broadcastInDim S2x8x8x12 ![0, 1, 2, 3] bcast_S1x1x1x12_S2x8x8x12_0_1_2_3 (broadcastInDim S1x1x1x12 ![3] bcast_S12_S1x1x1x12_3 (V0 (Proc.devRef .tc main_arg10) : FVec Ideal S12 .f32)))) shapeCasts_S2x8x8x12_S2x192x4

/-- The reference's boxes of level 4, one anchor a row. -/
theorem box4 (b : Fin 2) (n : Fin 192) (j : Fin 4) :
    boxes4 V0 (ix3 b n j)
      = linAt (V0 (Proc.devRef .tc main_arg4) : FVec Ideal S2x8x8x256 .f32) (V0 (Proc.devRef .tc main_arg5)) (V0 (Proc.devRef .tc main_arg6)) (c := 12)
          (V0 (Proc.devRef .tc main_arg9)) (V0 (Proc.devRef .tc main_arg10)) b (n.1 / 3) ⟨n.1 % 3 * 4 + j.1, by omega⟩ := by
  have h : n.1 / 24 = n.1 / 3 / 8 := by omega
  pointwise [boxes4]
  simp only [share4, h]
  rfl

end Cert.ReferenceIdeal.Hand
-- ==== Proof.Math.Equation.lean ====
module

public import proofs.«01_k».proof.Proof.Math.Tail
public import proofs.«01_k».proof.Proof.Math.Reference

@[expose] public section

set_option maxRecDepth 16384

noncomputable section

/-! The equation: level by level the kernel's arrays, laid out one anchor a row, are the reference's. -/

namespace Cert.Hand

open Cert.KernelIdeal Cert.KernelIdeal.Gen Cert.KernelIdeal.Hand Cert.Heads
open Idealize.ShloMosaic Idealize.ShloMosaic.TcCoe

/-- A level's array with its anchors one a row: the reading of `A` by rows of `j` is `B`, when `A` is the table of `g` and
    `B` reads `g` three rows to a position. -/
theorem laid {n N j K : ℕ} (g : Fin 2 → ℕ → Fin K → EReal) {A : (⟨3, ![2, n, K]⟩ : Shape).Idx → EReal}
    {B : (⟨3, ![2, N, j]⟩ : Shape).Idx → EReal} (h : (⟨3, ![2, n, K]⟩ : Shape).ShapeCasts ⟨3, ![2, N, j]⟩)
    (hN : N = n * 3) (hK : K = 3 * j) (hA : A = table g)
    (hB : ∀ (b : Fin 2) (p : Fin N) (q : Fin j), B (ix3 b p q)
      = g b (p.1 / 3) ⟨p.1 % 3 * j + q.1, by
          have := Nat.mod_lt p.1 (Nat.zero_lt_succ 2); have := q.isLt; have := Nat.mul_le_mul_right j (show p.1 % 3 ≤ 2 by omega); omega⟩) :
    shapeCast ⟨3, ![2, N, j]⟩ A h = B := by
  subst hN hK hA
  funext i
  obtain ⟨b, p, q, rfl⟩ := ix3_of i
  have hq := q.isLt
  have hm := Nat.mul_le_mul_right j (show p.1 % 3 ≤ 2 by omega)
  rw [hB, shapeCast_apply _ h _ (ix3 b ⟨p.1 / 3, by omega⟩ ⟨p.1 % 3 * j + q.1, by omega⟩)]
  · rfl
  · rw [Shape.rowMajor_val_three, Shape.rowMajor_val_three]
    show (b.1 * n + p.1 / 3) * (3 * j) + (p.1 % 3 * j + q.1) = (b.1 * (n * 3) + p.1) * j + q.1
    have hp := Nat.div_add_mod p.1 3
    generalize p.1 / 3 = u, p.1 % 3 = v at hp
    rw [← hp]
    ring

variable (m : (ℓ : Loc nD τ sig) → Buf (Elt Ideal) ℓ) (c : Dev nD)

/-- The arguments of the reference are the kernel's. -/
def Same (V : Valuation Cert.ReferenceIdeal.τ Cert.ReferenceIdeal.sig (Elt Ideal)) : Prop :=
  V (Proc.devRef .tc Cert.ReferenceIdeal.main_arg0) = m ((c : Thread nD τ).loc main_arg0)
    ∧ V (Proc.devRef .tc Cert.ReferenceIdeal.main_arg1) = m ((c : Thread nD τ).loc main_arg1)
    ∧ V (Proc.devRef .tc Cert.ReferenceIdeal.main_arg2) = m ((c : Thread nD τ).loc main_arg2)
    ∧ V (Proc.devRef .tc Cert.ReferenceIdeal.main_arg3) = m ((c : Thread nD τ).loc main_arg3)
    ∧ V (Proc.devRef .tc Cert.ReferenceIdeal.main_arg4) = m ((c : Thread nD τ).loc main_arg4)
    ∧ V (Proc.devRef .tc Cert.ReferenceIdeal.main_arg5) = m ((c : Thread nD τ).loc main_arg5)
    ∧ V (Proc.devRef .tc Cert.ReferenceIdeal.main_arg6) = m ((c : Thread nD τ).loc main_arg6)
    ∧ V (Proc.devRef .tc Cert.ReferenceIdeal.main_arg7) = m ((c : Thread nD τ).loc main_arg7)
    ∧ V (Proc.devRef .tc Cert.ReferenceIdeal.main_arg8) = m ((c : Thread nD τ).loc main_arg8)
    ∧ V (Proc.devRef .tc Cert.ReferenceIdeal.main_arg9) = m ((c : Thread nD τ).loc main_arg9)
    ∧ V (Proc.devRef .tc Cert.ReferenceIdeal.main_arg10) = m ((c : Thread nD τ).loc main_arg10)

variable (V : Valuation Cert.ReferenceIdeal.τ Cert.ReferenceIdeal.sig (Elt Ideal)) (hag : Same m c V)

include hag

/-- Level 0: the kernel's class scores, one anchor a row, are the reference's. -/
theorem logits0 : shapeCast S2x49152x2 ((dats m 0 c).arrAt 5 (cfgs 0).N : FVec Ideal S2x16384x6 .f32) shapeCasts_S2x16384x6_S2x49152x2
    = (Cert.ReferenceIdeal.Value.res_main_v56 V : FVec Ideal S2x49152x2 .f32) :=
  let ⟨h0, h1, h2, h3, h4, h5, h6, h7, h8, h9, h10⟩ := hag
  laid _ _ rfl rfl (final5 m c) fun b n j => by rw [Cert.ReferenceIdeal.Hand.logit0 V b n j, h0, h5, h6, h7, h8]

/-- Level 0: the kernel's class probabilities, one anchor a row, are the reference's. -/
theorem probs0 : shapeCast S2x49152x2 ((dats m 0 c).arrAt 6 (cfgs 0).N : FVec Ideal S2x16384x6 .f32) shapeCasts_S2x16384x6_S2x49152x2
    = (Cert.ReferenceIdeal.Hand.soft0 (Cert.ReferenceIdeal.Value.res_main_v56 V) : FVec Ideal S2x49152x2 .f32) :=
  let ⟨h0, h1, h2, h3, h4, h5, h6, h7, h8, h9, h10⟩ := hag
  laid _ _ rfl rfl (final6 m c) fun b n j => by rw [Cert.ReferenceIdeal.Hand.prob0 V b n j, h0, h5, h6, h7, h8]

/-- Level 0: the kernel's boxes, one anchor a row, are the reference's. -/
theorem boxes0 : shapeCast S2x49152x4 ((dats m 0 c).arrAt 7 (cfgs 0).N : FVec Ideal S2x16384x12 .f32) shapeCasts_S2x16384x12_S2x49152x4
    = (Cert.ReferenceIdeal.Hand.boxes0 V : FVec Ideal S2x49152x4 .f32) :=
  let ⟨h0, h1, h2, h3, h4, h5, h6, h7, h8, h9, h10⟩ := hag
  laid _ _ rfl rfl (final7 m c) fun b n j => by rw [Cert.ReferenceIdeal.Hand.box0 V b n j, h0, h5, h6, h9, h10]

/-- Level 1: the kernel's class scores, one anchor a row, are the reference's. -/
theorem logits1 : shapeCast S2x12288x2 ((dats m 0 c).arrAt 8 (cfgs 0).N : FVec Ideal S2x4096x6 .f32) shapeCasts_S2x4096x6_S2x12288x2
    = (Cert.ReferenceIdeal.Value.res_main_v130 V : FVec Ideal S2x12288x2 .f32) :=
  let ⟨h0, h1, h2, h3, h4, h5, h6, h7, h8, h9, h10⟩ := hag
  laid _ _ rfl rfl (final8 m c) fun b n j => by rw [Cert.ReferenceIdeal.Hand.logit1 V b n j, h1, h5, h6, h7, h8]

/-- Level 1: the kernel's class probabilities, one anchor a row, are the reference's. -/
theorem probs1 : shapeCast S2x12288x2 ((dats m 0 c).arrAt 9 (cfgs 0).N : FVec Ideal S2x4096x6 .f32) shapeCasts_S2x4096x6_S2x12288x2
    = (Cert.ReferenceIdeal.Hand.soft1 (Cert.ReferenceIdeal.Value.res_main_v130 V) : FVec Ideal S2x12288x2 .f32) :=
  let ⟨h0, h1, h2, h3, h4, h5, h6, h7, h8, h9, h10⟩ := hag
  laid _ _ rfl rfl (final9 m c) fun b n j => by rw [Cert.ReferenceIdeal.Hand.prob1 V b n j, h1, h5, h6, h7, h8]

/-- Level 1: the kernel's boxes, one anchor a row, are the reference's. -/
theorem boxes1 : shapeCast S2x12288x4 ((dats m 0 c).arrAt 10 (cfgs 0).N : FVec Ideal S2x4096x12 .f32) shapeCasts_S2x4096x12_S2x12288x4
    = (Cert.ReferenceIdeal.Hand.boxes1 V : FVec Ideal S2x12288x4 .f32) :=
  let ⟨h0, h1, h2, h3, h4, h5, h6, h7, h8, h9, h10⟩ := hag
  laid _ _ rfl rfl (final10 m c) fun b n j => by rw [Cert.ReferenceIdeal.Hand.box1 V b n j, h1, h5, h6, h9, h10]

/-- Level 2: the kernel's class scores, one anchor a row, are the reference's. -/
theorem logits2 : shapeCast S2x3072x2 ((dats m 0 c).arrAt 11 (cfgs 0).N : FVec Ideal S2x1024x6 .f32) shapeCasts_S2x1024x6_S2x3072x2
    = (Cert.ReferenceIdeal.Value.res_main_v204 V : FVec Ideal S2x3072x2 .f32) :=
  let ⟨h0, h1, h2, h3, h4, h5, h6, h7, h8, h9, h10⟩ := hag
  laid _ _ rfl rfl (final11 m c) fun b n j => by rw [Cert.ReferenceIdeal.Hand.logit2 V b n j, h2, h5, h6, h7, h8]

/-- Level 2: the kernel's class probabilities, one anchor a row, are the reference's. -/
theorem probs2 : shapeCast S2x3072x2 ((dats m 0 c).arrAt 12 (cfgs 0).N : FVec Ideal S2x1024x6 .f32) shapeCasts_S2x1024x6_S2x3072x2
    = (Cert.ReferenceIdeal.Hand.soft2 (Cert.ReferenceIdeal.Value.res_main_v204 V) : FVec Ideal S2x3072x2 .f32) :=
  let ⟨h0, h1, h2, h3, h4, h5, h6, h7, h8, h9, h10⟩ := hag
  laid _ _ rfl rfl (final12 m c) fun b n j => by rw [Cert.ReferenceIdeal.Hand.prob2 V b n j, h2, h5, h6, h7, h8]

/-- Level 2: the kernel's boxes, one anchor a row, are the reference's. -/
theorem boxes2 : shapeCast S2x3072x4 ((dats m 0 c).arrAt 13 (cfgs 0).N : FVec Ideal S2x1024x12 .f32) shapeCasts_S2x1024x12_S2x3072x4
    = (Cert.ReferenceIdeal.Hand.boxes2 V : FVec Ideal S2x3072x4 .f32) :=
  let ⟨h0, h1, h2, h3, h4, h5, h6, h7, h8, h9, h10⟩ := hag
  laid _ _ rfl rfl (final13 m c) fun b n j => by rw [Cert.ReferenceIdeal.Hand.box2 V b n j, h2, h5, h6, h9, h10]

/-- Level 3: the kernel's class scores, one anchor a row, are the reference's. -/
theorem logits3 : shapeCast S2x768x2 ((dats m 0 c).arrAt 14 (cfgs 0).N : FVec Ideal S2x256x6 .f32) shapeCasts_S2x256x6_S2x768x2
    = (Cert.ReferenceIdeal.Value.res_main_v278 V : FVec Ideal S2x768x2 .f32) :=
  let ⟨h0, h1, h2, h3, h4, h5, h6, h7, h8, h9, h10⟩ := hag
  laid _ _ rfl rfl (final14 m c) fun b n j => by rw [Cert.ReferenceIdeal.Hand.logit3 V b n j, h3, h5, h6, h7, h8]

/-- Level 3: the kernel's class probabilities, one anchor a row, are the reference's. -/
theorem probs3 : shapeCast S2x768x2 ((dats m 0 c).arrAt 15 (cfgs 0).N : FVec Ideal S2x256x6 .f32) shapeCasts_S2x256x6_S2x768x2
    = (Cert.ReferenceIdeal.Hand.soft3 (Cert.ReferenceIdeal.Value.res_main_v278 V) : FVec Ideal S2x768x2 .f32) :=
  let ⟨h0, h1, h2, h3, h4, h5, h6, h7, h8, h9, h10⟩ := hag
  laid _ _ rfl rfl (final15 m c) fun b n j => by rw [Cert.ReferenceIdeal.Hand.prob3 V b n j, h3, h5, h6, h7, h8]

/-- Level 3: the kernel's boxes, one anchor a row, are the reference's. -/
theorem boxes3 : shapeCast S2x768x4 ((dats m 0 c).arrAt 16 (cfgs 0).N : FVec Ideal S2x256x12 .f32) shapeCasts_S2x256x12_S2x768x4
    = (Cert.ReferenceIdeal.Hand.boxes3 V : FVec Ideal S2x768x4 .f32) :=
  let ⟨h0, h1, h2, h3, h4, h5, h6, h7, h8, h9, h10⟩ := hag
  laid _ _ rfl rfl (final16 m c) fun b n j => by rw [Cert.ReferenceIdeal.Hand.box3 V b n j, h3, h5, h6, h9, h10]

/-- Level 4: the kernel's class scores, one anchor a row, are the reference's. -/
theorem logits4 : shapeCast S2x192x2 ((dats m 0 c).arrAt 17 (cfgs 0).N : FVec Ideal S2x64x6 .f32) shapeCasts_S2x64x6_S2x192x2
    = (Cert.ReferenceIdeal.Value.res_main_v352 V : FVec Ideal S2x192x2 .f32) :=
  let ⟨h0, h1, h2, h3, h4, h5, h6, h7, h8, h9, h10⟩ := hag
  laid _ _ rfl rfl (final17 m c) fun b n j => by rw [Cert.ReferenceIdeal.Hand.logit4 V b n j, h4, h5, h6, h7, h8]

/-- Level 4: the kernel's class probabilities, one anchor a row, are the reference's. -/
theorem probs4 : shapeCast S2x192x2 ((dats m 0 c).arrAt 18 (cfgs 0).N : FVec Ideal S2x64x6 .f32) shapeCasts_S2x64x6_S2x192x2
    = (Cert.ReferenceIdeal.Hand.soft4 (Cert.ReferenceIdeal.Value.res_main_v352 V) : FVec Ideal S2x192x2 .f32) :=
  let ⟨h0, h1, h2, h3, h4, h5, h6, h7, h8, h9, h10⟩ := hag
  laid _ _ rfl rfl (final18 m c) fun b n j => by rw [Cert.ReferenceIdeal.Hand.prob4 V b n j, h4, h5, h6, h7, h8]

/-- Level 4: the kernel's boxes, one anchor a row, are the reference's. -/
theorem boxes4 : shapeCast S2x192x4 ((dats m 0 c).arrAt 19 (cfgs 0).N : FVec Ideal S2x64x12 .f32) shapeCasts_S2x64x12_S2x192x4
    = (Cert.ReferenceIdeal.Hand.boxes4 V : FVec Ideal S2x192x4 .f32) :=
  let ⟨h0, h1, h2, h3, h4, h5, h6, h7, h8, h9, h10⟩ := hag
  laid _ _ rfl rfl (final19 m c) fun b n j => by rw [Cert.ReferenceIdeal.Hand.box4 V b n j, h4, h5, h6, h9, h10]

/-- The first result: the five levels' class scores, as the reference has them. -/
theorem logits : Pipeline.afterTail₀ cfgs (dats m) 0 (V0 m) [hostOps1] c main_v54
    = cat2 (Cert.ReferenceIdeal.Value.res_main_v56 V) (Cert.ReferenceIdeal.Value.res_main_v130 V) (Cert.ReferenceIdeal.Value.res_main_v204 V) (Cert.ReferenceIdeal.Value.res_main_v278 V) (Cert.ReferenceIdeal.Value.res_main_v352 V) := by
  rw [tail_logits, logits0 m c V hag, logits1 m c V hag, logits2 m c V hag, logits3 m c V hag, logits4 m c V hag]

/-- The second result: the five levels' class probabilities, as the reference has them. -/
theorem probs : Pipeline.afterTail₀ cfgs (dats m) 0 (V0 m) [hostOps1] c main_v55
    = cat2 (Cert.ReferenceIdeal.Hand.soft0 (Cert.ReferenceIdeal.Value.res_main_v56 V)) (Cert.ReferenceIdeal.Hand.soft1 (Cert.ReferenceIdeal.Value.res_main_v130 V)) (Cert.ReferenceIdeal.Hand.soft2 (Cert.ReferenceIdeal.Value.res_main_v204 V)) (Cert.ReferenceIdeal.Hand.soft3 (Cert.ReferenceIdeal.Value.res_main_v278 V)) (Cert.ReferenceIdeal.Hand.soft4 (Cert.ReferenceIdeal.Value.res_main_v352 V)) := by
  rw [tail_probs, probs0 m c V hag, probs1 m c V hag, probs2 m c V hag, probs3 m c V hag, probs4 m c V hag]

/-- The third result: the five levels' boxes, as the reference has them. -/
theorem boxes : Pipeline.afterTail₀ cfgs (dats m) 0 (V0 m) [hostOps1] c main_v56
    = cat4 (Cert.ReferenceIdeal.Hand.boxes0 V) (Cert.ReferenceIdeal.Hand.boxes1 V) (Cert.ReferenceIdeal.Hand.boxes2 V) (Cert.ReferenceIdeal.Hand.boxes3 V) (Cert.ReferenceIdeal.Hand.boxes4 V) := by
  rw [tail_boxes, boxes0 m c V hag, boxes1 m c V hag, boxes2 m c V hag, boxes3 m c V hag, boxes4 m c V hag]

end Cert.Hand
-- ==== Proof.lean ====
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Body.Copy
public import proofs.«01_k».proof.Proof.Body.Sound
public import proofs.«01_k».proof.Proof.Math.Equation
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- What a run of the kernel ends with, at any reading of the floats: the three results as the lines after the kernel leave them, the arguments as
    they were, the counters at zero. -/
theorem run_any {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩
      (fun r => (∀ c : Dev Cert.KernelIdeal.nD,
        r.2.mem ((c.tc : Thread Cert.KernelIdeal.nD Cert.KernelIdeal.τ).loc Cert.KernelIdeal.main_v54) = Pipeline.afterTail₀ Cert.KernelIdeal.cfgs (Cert.KernelIdeal.Hand.dats m) 0 (Cert.KernelIdeal.Gen.V0 m) [Cert.KernelIdeal.Gen.hostOps1] c Cert.KernelIdeal.main_v54
        ∧ r.2.mem ((c.tc : Thread Cert.KernelIdeal.nD Cert.KernelIdeal.τ).loc Cert.KernelIdeal.main_v55) = Pipeline.afterTail₀ Cert.KernelIdeal.cfgs (Cert.KernelIdeal.Hand.dats m) 0 (Cert.KernelIdeal.Gen.V0 m) [Cert.KernelIdeal.Gen.hostOps1] c Cert.KernelIdeal.main_v55
        ∧ r.2.mem ((c.tc : Thread Cert.KernelIdeal.nD Cert.KernelIdeal.τ).loc Cert.KernelIdeal.main_v56) = Pipeline.afterTail₀ Cert.KernelIdeal.cfgs (Cert.KernelIdeal.Hand.dats m) 0 (Cert.KernelIdeal.Gen.V0 m) [Cert.KernelIdeal.Gen.hostOps1] c Cert.KernelIdeal.main_v56
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
        ∧ r.2.sem = fun _ => 0) := by
  refine (θ_run _ _ _).mono (fun r h => ⟨fun c => ⟨?_, ?_, ?_, ?_, ?_, ?_, ?_, ?_, ?_, ?_, ?_, ?_, ?_, ?_⟩, h.2⟩) (Cert.KernelIdeal.Hand.run_kernel m g)
  · exact (h.1 c).2 Cert.KernelIdeal.main_v54 (Pipeline.mem_restRefs_of Cert.KernelIdeal.main_v54 (by decide) (by decide))
  · exact (h.1 c).2 Cert.KernelIdeal.main_v55 (Pipeline.mem_restRefs_of Cert.KernelIdeal.main_v55 (by decide) (by decide))
  · exact (h.1 c).2 Cert.KernelIdeal.main_v56 (Pipeline.mem_restRefs_of Cert.KernelIdeal.main_v56 (by decide) (by decide))
  · exact ((h.1 c).2 Cert.KernelIdeal.main_arg0 (Pipeline.mem_restRefs_of Cert.KernelIdeal.main_arg0 (by decide) (by decide))).trans (Cert.KernelIdeal.Gen.W_main_arg0 m (Cert.KernelIdeal.Hand.dats m) c)
  · exact ((h.1 c).2 Cert.KernelIdeal.main_arg1 (Pipeline.mem_restRefs_of Cert.KernelIdeal.main_arg1 (by decide) (by decide))).trans (Cert.KernelIdeal.Gen.W_main_arg1 m (Cert.KernelIdeal.Hand.dats m) c)
  · exact ((h.1 c).2 Cert.KernelIdeal.main_arg2 (Pipeline.mem_restRefs_of Cert.KernelIdeal.main_arg2 (by decide) (by decide))).trans (Cert.KernelIdeal.Gen.W_main_arg2 m (Cert.KernelIdeal.Hand.dats m) c)
  · exact ((h.1 c).2 Cert.KernelIdeal.main_arg3 (Pipeline.mem_restRefs_of Cert.KernelIdeal.main_arg3 (by decide) (by decide))).trans (Cert.KernelIdeal.Gen.W_main_arg3 m (Cert.KernelIdeal.Hand.dats m) c)
  · exact ((h.1 c).2 Cert.KernelIdeal.main_arg4 (Pipeline.mem_restRefs_of Cert.KernelIdeal.main_arg4 (by decide) (by decide))).trans (Cert.KernelIdeal.Gen.W_main_arg4 m (Cert.KernelIdeal.Hand.dats m) c)
  · exact ((h.1 c).2 Cert.KernelIdeal.main_arg5 (Pipeline.mem_restRefs_of Cert.KernelIdeal.main_arg5 (by decide) (by decide))).trans (Cert.KernelIdeal.Gen.W_main_arg5 m (Cert.KernelIdeal.Hand.dats m) c)
  · exact ((h.1 c).2 Cert.KernelIdeal.main_arg6 (Pipeline.mem_restRefs_of Cert.KernelIdeal.main_arg6 (by decide) (by decide))).trans (Cert.KernelIdeal.Gen.W_main_arg6 m (Cert.KernelIdeal.Hand.dats m) c)
  · exact ((h.1 c).2 Cert.KernelIdeal.main_arg7 (Pipeline.mem_restRefs_of Cert.KernelIdeal.main_arg7 (by decide) (by decide))).trans (Cert.KernelIdeal.Gen.W_main_arg7 m (Cert.KernelIdeal.Hand.dats m) c)
  · exact ((h.1 c).2 Cert.KernelIdeal.main_arg8 (Pipeline.mem_restRefs_of Cert.KernelIdeal.main_arg8 (by decide) (by decide))).trans (Cert.KernelIdeal.Gen.W_main_arg8 m (Cert.KernelIdeal.Hand.dats m) c)
  · exact ((h.1 c).2 Cert.KernelIdeal.main_arg9 (Pipeline.mem_restRefs_of Cert.KernelIdeal.main_arg9 (by decide) (by decide))).trans (Cert.KernelIdeal.Gen.W_main_arg9 m (Cert.KernelIdeal.Hand.dats m) c)
  · exact ((h.1 c).2 Cert.KernelIdeal.main_arg10 (Pipeline.mem_restRefs_of Cert.KernelIdeal.main_arg10 (by decide) (by decide))).trans (Cert.KernelIdeal.Gen.W_main_arg10 m (Cert.KernelIdeal.Hand.dats m) c)

/-- The kernel's frame over the extended reals. -/
theorem frame_ideal : Cert.quiescent_KernelIdeal (hKernelIdeal := Cert.KernelIdeal.Gen.facts) :=
  fun m g _ => (θ_run _ _ _).mono (fun r h => ⟨fun c => (h.1 c).2.2.2, h.2⟩) (run_any m g)

/-- What holds of one program's runs holds of another's, when their tables and their threads agree. -/
theorem of_same {F : FTy → Type} {D D' : Defs Cert.KernelIdeal.nD Cert.KernelIdeal.τ Cert.KernelIdeal.sig (Elt F) (Pipeline.Sig Cert.KernelIdeal.Λ₀ (Fin 1) fun p => (Cert.KernelIdeal.pcfgs (F := F) p).Adm)}
    (hD : D = D') {main main' : Dev Cert.KernelIdeal.nD → Prog (TpuEff Cert.KernelIdeal.nD Cert.KernelIdeal.τ Cert.KernelIdeal.sig (Elt F) (Pipeline.Sig Cert.KernelIdeal.Λ₀ (Fin 1) fun p => (Cert.KernelIdeal.pcfgs (F := F) p).Adm) .tc) PUnit}
    (hm : main = main') {s} {Q} (h : θ_run D' (onTc (τ := Cert.KernelIdeal.τ) main') s Q) : θ_run D (onTc (τ := Cert.KernelIdeal.τ) main) s Q := by
  subst hD hm; exact h

/-- The kernel's frame at the machine's floats: the program is the ideal printing's, whose runs `run_any` describes. -/
theorem frame_kernel : Cert.quiescent_Kernel (hKernel := Cert.Kernel.Gen.facts) :=
  fun m g _ => of_same (F := Bits) (Cert.Hand.Copy.tables (hK := Cert.Kernel.Gen.facts) (hI := Cert.KernelIdeal.Gen.facts)) (Cert.Hand.Copy.host (hK := Cert.Kernel.Gen.facts) (hI := Cert.KernelIdeal.Gen.facts))
    ((θ_run _ _ _).mono (fun r h => ⟨fun c => (h.1 c).2.2.2, h.2⟩) (run_any (F := Bits) m g))

/-- The reference's frame over the extended reals. -/
theorem frame_reference : Cert.quiescent_ReferenceIdeal (hReferenceIdeal := Cert.ReferenceIdeal.Gen.facts) :=
  fun m g _ => (θ_run _ _ _).mono (fun r h => ⟨fun c => (h c).2.2.2, sem_eq_zero_of_no_sems (by decide) r.2⟩)
    (Cert.ReferenceIdeal.Value.run (F := Ideal) m g)

/-- Over the extended reals the kernel's three results are the reference's. -/
theorem equal : Cert.algebraic_KernelIdeal_ReferenceIdeal (hKernelIdeal := Cert.KernelIdeal.Gen.facts) (hReferenceIdeal := Cert.ReferenceIdeal.Gen.facts) := by
  intro m g m' g' _ hag
  have hs : ∀ c, Cert.Hand.Same m c (StableHlo.launchContents m' c) := hag
  refine ⟨_, _, _, (θ_run _ _ _).mono (fun r h => h.1) (run_any m g), ?_⟩
  refine (θ_run _ _ _).mono (fun r h c => ⟨?_, ?_, ?_, (h c).2.2.2⟩) (Cert.ReferenceIdeal.Value.run (F := Ideal) m' g')
  · exact (h c).1.trans (Cert.Hand.logits m c _ (hs c)).symm
  · exact (h c).2.1.trans (Cert.Hand.probs m c _ (hs c)).symm
  · exact (h c).2.2.1.trans (Cert.Hand.boxes m c _ (hs c)).symm

/-- All five claims. -/
theorem claim : Cert.Claim :=
  ⟨Cert.Kernel.Gen.facts, Cert.KernelIdeal.Gen.facts, Cert.ReferenceIdeal.Gen.facts, frame_kernel, frame_ideal, frame_reference, trivial, equal⟩

end Cert.Proof

end
